-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "emb_log_2pi" .f32 0x446B3F8E#32 ((512 * (Real.log (13176795 / 2097152)) : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1024x3x32x32 : Shape := ⟨4, ![1024, 3, 32, 32]⟩
abbrev S32x3x5x5 : Shape := ⟨4, ![32, 3, 5, 5]⟩
abbrev S32 : Shape := ⟨1, ![32]⟩
abbrev S64x32x5x5 : Shape := ⟨4, ![64, 32, 5, 5]⟩
abbrev S64 : Shape := ⟨1, ![64]⟩
abbrev S512x1600 : Shape := ⟨2, ![512, 1600]⟩
abbrev S512 : Shape := ⟨1, ![512]⟩
abbrev S100x512 : Shape := ⟨2, ![100, 512]⟩
abbrev S100 : Shape := ⟨1, ![100]⟩
abbrev S_ : Shape := ⟨0, ![]⟩

class Facts : Prop where
  bcast_S_S1024x3x32x32 : S_.BroadcastsInDim S1024x3x32x32 (![] : Fin 0 → Fin S1024x3x32x32.rank)
  reducesTo_S1024x3x32x32_S_d0_1_2_3 : S1024x3x32x32.ReducesTo [0, 1, 2, 3] S_
  h_S_ : 0 < S_.numel
  bcast_S_S32x3x5x5 : S_.BroadcastsInDim S32x3x5x5 (![] : Fin 0 → Fin S32x3x5x5.rank)
  reducesTo_S32x3x5x5_S_d0_1_2_3 : S32x3x5x5.ReducesTo [0, 1, 2, 3] S_
  bcast_S_S32 : S_.BroadcastsInDim S32 (![] : Fin 0 → Fin S32.rank)
  reducesTo_S32_S_d0 : S32.ReducesTo [0] S_
  bcast_S_S64x32x5x5 : S_.BroadcastsInDim S64x32x5x5 (![] : Fin 0 → Fin S64x32x5x5.rank)
  reducesTo_S64x32x5x5_S_d0_1_2_3 : S64x32x5x5.ReducesTo [0, 1, 2, 3] S_
  bcast_S_S64 : S_.BroadcastsInDim S64 (![] : Fin 0 → Fin S64.rank)
  reducesTo_S64_S_d0 : S64.ReducesTo [0] S_
  bcast_S_S512x1600 : S_.BroadcastsInDim S512x1600 (![] : Fin 0 → Fin S512x1600.rank)
  reducesTo_S512x1600_S_d0_1 : S512x1600.ReducesTo [0, 1] S_
  bcast_S_S512 : S_.BroadcastsInDim S512 (![] : Fin 0 → Fin S512.rank)
  reducesTo_S512_S_d0 : S512.ReducesTo [0] S_
  bcast_S_S100x512 : S_.BroadcastsInDim S100x512 (![] : Fin 0 → Fin S100x512.rank)
  reducesTo_S100x512_S_d0_1 : S100x512.ReducesTo [0, 1] S_
  bcast_S_S100 : S_.BroadcastsInDim S100 (![] : Fin 0 → Fin S100.rank)
  reducesTo_S100_S_d0 : S100.ReducesTo [0] S_

variable [Facts]

def fn_part2 {F : FTy → Type} [FloatOps F] (main_arg9 : FVec F S100x512 .f32) (main_arg10 : FVec F S100x512 .f32) (main_arg11 : FVec F S100 .f32) (main_v33 : IVec S_ 1) : IVec S_ 1 :=
  let main_v34 : FVec F S100x512 .f32 := Host.absf main_arg9
  let main_cst_12 : FVec F S_ .f32 := constant S_ .f32 0x7F800000#32
  let main_v35 : FVec F S100x512 .f32 := broadcastInDim S100x512 ![] bcast_S_S100x512 main_cst_12
  let main_v36 : IVec S100x512 1 := cmpf .olt main_v34 main_v35
  let main_c_13 : IVec S_ 1 := constantI S_ 1 1#1
  let main_v37 : IVec S_ 1 := (fun x v => Host.reduce IntOp.andi x v reducesTo_S100x512_S_d0_1 h_S_) main_v36 main_c_13
  let main_v38 : IVec S_ 1 := andi main_v33 main_v37
  let main_v39 : FVec F S100x512 .f32 := Host.absf main_arg10
  let main_cst_14 : FVec F S_ .f32 := constant S_ .f32 0x7F800000#32
  let main_v40 : FVec F S100x512 .f32 := broadcastInDim S100x512 ![] bcast_S_S100x512 main_cst_14
  let main_v41 : IVec S100x512 1 := cmpf .olt main_v39 main_v40
  let main_c_15 : IVec S_ 1 := constantI S_ 1 1#1
  let main_v42 : IVec S_ 1 := (fun x v => Host.reduce IntOp.andi x v reducesTo_S100x512_S_d0_1 h_S_) main_v41 main_c_15
  let main_v43 : IVec S_ 1 := andi main_v38 main_v42
  let main_v44 : FVec F S100 .f32 := Host.absf main_arg11
  let main_cst_16 : FVec F S_ .f32 := constant S_ .f32 0x7F800000#32
  let main_v45 : FVec F S100 .f32 := broadcastInDim S100 ![] bcast_S_S100 main_cst_16
  let main_v46 : IVec S100 1 := cmpf .olt main_v44 main_v45
  let main_c_17 : IVec S_ 1 := constantI S_ 1 1#1
  let main_v47 : IVec S_ 1 := (fun x v => Host.reduce IntOp.andi x v reducesTo_S100_S_d0 h_S_) main_v46 main_c_17
  let main_v48 : IVec S_ 1 := andi main_v43 main_v47
  main_v48

def fn_part1 {F : FTy → Type} [FloatOps F] (main_arg4 : FVec F S64 .f32) (main_arg5 : FVec F S512x1600 .f32) (main_arg6 : FVec F S512 .f32) (main_arg9 : FVec F S100x512 .f32) (main_arg10 : FVec F S100x512 .f32) (main_arg11 : FVec F S100 .f32) (main_v13 : IVec S_ 1) (main_v16 : IVec S64x32x5x5 1) : IVec S_ 1 :=
  let main_c_5 : IVec S_ 1 := constantI S_ 1 1#1
  let main_v17 : IVec S_ 1 := (fun x v => Host.reduce IntOp.andi x v reducesTo_S64x32x5x5_S_d0_1_2_3 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S512x1600 .f32 := Host.absf main_arg5
  let main_cst_8 : FVec F S_ .f32 := constant S_ .f32 0x7F800000#32
  let main_v25 : FVec F S512x1600 .f32 := broadcastInDim S512x1600 ![] bcast_S_S512x1600 main_cst_8
  let main_v26 : IVec S512x1600 1 := cmpf .olt main_v24 main_v25
  let main_c_9 : IVec S_ 1 := constantI S_ 1 1#1
  let main_v27 : IVec S_ 1 := (fun x v => Host.reduce IntOp.andi x v reducesTo_S512x1600_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg9 main_arg10 main_arg11 main_v33

def fn {F : FTy → Type} [FloatOps F] (main_arg0 : FVec F S1024x3x32x32 .f32) (main_arg1 : FVec F S32x3x5x5 .f32) (main_arg2 : FVec F S32 .f32) (main_arg3 : FVec F S64x32x5x5 .f32) (main_arg4 : FVec F S64 .f32) (main_arg5 : FVec F S512x1600 .f32) (main_arg6 : FVec F S512 .f32) (main_arg7 : FVec F S100x512 .f32) (main_arg8 : FVec F S100 .f32) (main_arg9 : FVec F S100x512 .f32) (main_arg10 : FVec F S100x512 .f32) (main_arg11 : FVec F S100 .f32) : IVec S_ 1 :=
  let main_v0 : FVec F S1024x3x32x32 .f32 := Host.absf main_arg0
  let main_cst : FVec F S_ .f32 := constant S_ .f32 0x7F800000#32
  let main_v1 : FVec F S1024x3x32x32 .f32 := broadcastInDim S1024x3x32x32 ![] bcast_S_S1024x3x32x32 main_cst
  let main_v2 : IVec S1024x3x32x32 1 := cmpf .olt main_v0 main_v1
  let main_c : IVec S_ 1 := constantI S_ 1 1#1
  let main_v3 : IVec S_ 1 := (fun x v => Host.reduce IntOp.andi x v reducesTo_S1024x3x32x32_S_d0_1_2_3 h_S_) main_v2 main_c
  let main_v4 : FVec F S32x3x5x5 .f32 := Host.absf main_arg1
  let main_cst_0 : FVec F S_ .f32 := constant S_ .f32 0x7F800000#32
  let main_v5 : FVec F S32x3x5x5 .f32 := broadcastInDim S32x3x5x5 ![] bcast_S_S32x3x5x5 main_cst_0
  let main_v6 : IVec S32x3x5x5 1 := cmpf .olt main_v4 main_v5
  let main_c_1 : IVec S_ 1 := constantI S_ 1 1#1
  let main_v7 : IVec S_ 1 := (fun x v => Host.reduce IntOp.andi x v reducesTo_S32x3x5x5_S_d0_1_2_3 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S64x32x5x5 .f32 := Host.absf main_arg3
  let main_cst_4 : FVec F S_ .f32 := constant S_ .f32 0x7F800000#32
  let main_v15 : FVec F S64x32x5x5 .f32 := broadcastInDim S64x32x5x5 ![] bcast_S_S64x32x5x5 main_cst_4
  let main_v16 : IVec S64x32x5x5 1 := cmpf .olt main_v14 main_v15
  fn_part1 (F := F) main_arg4 main_arg5 main_arg6 main_arg9 main_arg10 main_arg11 main_v13 main_v16
-- ==== Kernel.lean ====
abbrev S1024x3x32x32 : Shape := ⟨4, ![1024, 3, 32, 32]⟩
abbrev S32x3x5x5 : Shape := ⟨4, ![32, 3, 5, 5]⟩
abbrev S32 : Shape := ⟨1, ![32]⟩
abbrev S64x32x5x5 : Shape := ⟨4, ![64, 32, 5, 5]⟩
abbrev S64 : Shape := ⟨1, ![64]⟩
abbrev S512x1600 : Shape := ⟨2, ![512, 1600]⟩
abbrev S512 : Shape := ⟨1, ![512]⟩
abbrev S100x512 : Shape := ⟨2, ![100, 512]⟩
abbrev S100 : Shape := ⟨1, ![100]⟩
abbrev S32x1024x32x3 : Shape := ⟨4, ![32, 1024, 32, 3]⟩
abbrev S32x1024x96 : Shape := ⟨3, ![32, 1024, 96]⟩
abbrev S5x5x3x32 : Shape := ⟨4, ![5, 5, 3, 32]⟩
abbrev S32x1 : Shape := ⟨2, ![32, 1]⟩
abbrev S28 : Shape := ⟨1, ![28]⟩
abbrev S1x28 : Shape := ⟨2, ![1, 28]⟩
abbrev S32x28 : Shape := ⟨2, ![32, 28]⟩
abbrev S_ : Shape := ⟨0, ![]⟩
abbrev S32x28x1 : Shape := ⟨3, ![32, 28, 1]⟩
abbrev S5x32x28x3x32 : Shape := ⟨5, ![5, 32, 28, 3, 32]⟩
abbrev S1x32x28x1x1 : Shape := ⟨5, ![1, 32, 28, 1, 1]⟩
abbrev S5x32x3x28x32 : Shape := ⟨5, ![5, 32, 3, 28, 32]⟩
abbrev S5x96x14x2x32 : Shape := ⟨5, ![5, 96, 14, 2, 32]⟩
abbrev S5x96x2x14x32 : Shape := ⟨5, ![5, 96, 2, 14, 32]⟩
abbrev S5x96x2x448 : Shape := ⟨4, ![5, 96, 2, 448]⟩
abbrev S5x96x2x512 : Shape := ⟨4, ![5, 96, 2, 512]⟩
abbrev S5x96x1024 : Shape := ⟨3, ![5, 96, 1024]⟩
abbrev S1x32 : Shape := ⟨2, ![1, 32]⟩
abbrev S14x32 : Shape := ⟨2, ![14, 32]⟩
abbrev S448 : Shape := ⟨1, ![448]⟩
abbrev S1x512 : Shape := ⟨2, ![1, 512]⟩
abbrev S2x512 : Shape := ⟨2, ![2, 512]⟩
abbrev S1024 : Shape := ⟨1, ![1024]⟩
abbrev S1x1024 : Shape := ⟨2, ![1, 1024]⟩
abbrev S5x5x32x64 : Shape := ⟨4, ![5, 5, 32, 64]⟩
abbrev S14 : Shape := ⟨1, ![14]⟩
abbrev S14x1 : Shape := ⟨2, ![14, 1]⟩
abbrev S10 : Shape := ⟨1, ![10]⟩
abbrev S1x10 : Shape := ⟨2, ![1, 10]⟩
abbrev S14x10 : Shape := ⟨2, ![14, 10]⟩
abbrev S14x10x1 : Shape := ⟨3, ![14, 10, 1]⟩
abbrev S5x14x10x32x64 : Shape := ⟨5, ![5, 14, 10, 32, 64]⟩
abbrev S1x14x10x1x1 : Shape := ⟨5, ![1, 14, 10, 1, 1]⟩
abbrev S5x14x32x10x64 : Shape := ⟨5, ![5, 14, 32, 10, 64]⟩
abbrev S5x448x5x2x64 : Shape := ⟨5, ![5, 448, 5, 2, 64]⟩
abbrev S5x448x2x5x64 : Shape := ⟨5, ![5, 448, 2, 5, 64]⟩
abbrev S5x448x2x320 : Shape := ⟨4, ![5, 448, 2, 320]⟩
abbrev S5x448x2x384 : Shape := ⟨4, ![5, 448, 2, 384]⟩
abbrev S5x448x768 : Shape := ⟨3, ![5, 448, 768]⟩
abbrev S5x512x768 : Shape := ⟨3, ![5, 512, 768]⟩
abbrev S1x64 : Shape := ⟨2, ![1, 64]⟩
abbrev S5x64 : Shape := ⟨2, ![5, 64]⟩
abbrev S320 : Shape := ⟨1, ![320]⟩
abbrev S384 : Shape := ⟨1, ![384]⟩
abbrev S1x384 : Shape := ⟨2, ![1, 384]⟩
abbrev S2x384 : Shape := ⟨2, ![2, 384]⟩
abbrev S768 : Shape := ⟨1, ![768]⟩
abbrev S1x768 : Shape := ⟨2, ![1, 768]⟩
abbrev S512x64x5x5 : Shape := ⟨4, ![512, 64, 5, 5]⟩
abbrev S5x5x64x512 : Shape := ⟨4, ![5, 5, 64, 512]⟩
abbrev S5x320x512 : Shape := ⟨3, ![5, 320, 512]⟩
abbrev S5x384x512 : Shape := ⟨3, ![5, 384, 512]⟩
abbrev S512x100 : Shape := ⟨2, ![512, 100]⟩
abbrev S512x128 : Shape := ⟨2, ![512, 128]⟩
abbrev S128 : Shape := ⟨1, ![128]⟩
abbrev S1x128 : Shape := ⟨2, ![1, 128]⟩
abbrev S1024x100 : Shape := ⟨2, ![1024, 100]⟩
abbrev S32x128x96 : Shape := ⟨3, ![32, 128, 96]⟩
abbrev S128x100 : Shape := ⟨2, ![128, 100]⟩
abbrev S28x128x96 : Shape := ⟨3, ![28, 128, 96]⟩
abbrev S3584x96 : Shape := ⟨2, ![3584, 96]⟩
abbrev S1x96x1024 : Shape := ⟨3, ![1, 96, 1024]⟩
abbrev S96x1024 : Shape := ⟨2, ![96, 1024]⟩
abbrev S3584x1024 : Shape := ⟨2, ![3584, 1024]⟩
abbrev S14x256x1024 : Shape := ⟨3, ![14, 256, 1024]⟩
abbrev S14x128x1024 : Shape := ⟨3, ![14, 128, 1024]⟩
abbrev S14x128x512 : Shape := ⟨3, ![14, 128, 512]⟩
abbrev S10x128x512 : Shape := ⟨3, ![10, 128, 512]⟩
abbrev S1280x512 : Shape := ⟨2, ![1280, 512]⟩
abbrev S1x512x768 : Shape := ⟨3, ![1, 512, 768]⟩
abbrev S512x768 : Shape := ⟨2, ![512, 768]⟩
abbrev S1280x768 : Shape := ⟨2, ![1280, 768]⟩
abbrev S5x256x768 : Shape := ⟨3, ![5, 256, 768]⟩
abbrev S5x128x768 : Shape := ⟨3, ![5, 128, 768]⟩
abbrev S5x128x384 : Shape := ⟨3, ![5, 128, 384]⟩
abbrev S1x128x384 : Shape := ⟨3, ![1, 128, 384]⟩
abbrev S128x384 : Shape := ⟨2, ![128, 384]⟩
abbrev S1x384x512 : Shape := ⟨3, ![1, 384, 512]⟩
abbrev S384x512 : Shape := ⟨2, ![384, 512]⟩
abbrev S128x512 : Shape := ⟨2, ![128, 512]⟩
abbrev S128x128 : Shape := ⟨2, ![128, 128]⟩
abbrev S128x1 : Shape := ⟨2, ![128, 1]⟩

abbrev nBuf : Space → Nat
  | .hbm => 158
  | .vmem => 15
  | .smem => 0
  | _ => 0

abbrev hbmTy0_0 (i : Nat) : BufTy := match i % 128 with
  | 0 => ⟨S1024x3x32x32, .f32⟩
  | 1 => ⟨S32x3x5x5, .f32⟩
  | 2 => ⟨S32, .f32⟩
  | 3 => ⟨S64x32x5x5, .f32⟩
  | 4 => ⟨S64, .f32⟩
  | 5 => ⟨S512x1600, .f32⟩
  | 6 => ⟨S512, .f32⟩
  | 7 => ⟨S100x512, .f32⟩
  | 8 => ⟨S100, .f32⟩
  | 9 => ⟨S100x512, .f32⟩
  | 10 => ⟨S100x512, .f32⟩
  | 11 => ⟨S100, .f32⟩
  | 12 => ⟨S1024x3x32x32, .bf16⟩
  | 13 => ⟨S32x1024x32x3, .bf16⟩
  | 14 => ⟨S32x1024x96, .bf16⟩
  | 15 => ⟨S5x5x3x32, .f32⟩
  | 16 => ⟨S32, .i32⟩
  | 17 => ⟨S32x1, .i32⟩
  | 18 => ⟨S28, .i32⟩
  | 19 => ⟨S1x28, .i32⟩
  | 20 => ⟨S32x28, .i32⟩
  | 21 => ⟨S32x28, .i32⟩
  | 22 => ⟨S32x28, .i32⟩
  | 23 => ⟨S_, .i32⟩
  | 24 => ⟨S_, .i32⟩
  | 25 => ⟨S_, .i32⟩
  | 26 => ⟨S32x28, .i32⟩
  | 27 => ⟨S32x28, .i32⟩
  | 28 => ⟨S_, .i32⟩
  | 29 => ⟨S32x28, .i32⟩
  | 30 => ⟨S32x28, .i32⟩
  | 31 => ⟨S_, .i32⟩
  | 32 => ⟨S32x28, .i32⟩
  | 33 => ⟨S32x28, .i1⟩
  | 34 => ⟨S_, .i32⟩
  | 35 => ⟨S32x28, .i32⟩
  | 36 => ⟨S32x28, .i32⟩
  | 37 => ⟨S32x28, .i32⟩
  | 38 => ⟨S32x28x1, .i32⟩
  | 39 => ⟨S5x32x28x3x32, .f32⟩
  | 40 => ⟨S_, .i32⟩
  | 41 => ⟨S32x28, .i32⟩
  | 42 => ⟨S32x28, .i1⟩
  | 43 => ⟨S_, .i32⟩
  | 44 => ⟨S32x28, .i32⟩
  | 45 => ⟨S32x28, .i1⟩
  | 46 => ⟨S32x28, .i1⟩
  | 47 => ⟨S1x32x28x1x1, .i1⟩
  | 48 => ⟨S1x32x28x1x1, .f32⟩
  | 49 => ⟨S5x32x28x3x32, .f32⟩
  | 50 => ⟨S5x32x28x3x32, .f32⟩
  | 51 => ⟨S5x32x3x28x32, .f32⟩
  | 52 => ⟨S5x96x14x2x32, .f32⟩
  | 53 => ⟨S5x96x2x14x32, .f32⟩
  | 54 => ⟨S5x96x2x448, .f32⟩
  | 55 => ⟨S_, .i32⟩
  | 56 => ⟨S_, .f32⟩
  | 57 => ⟨S5x96x2x512, .f32⟩
  | 58 => ⟨S5x96x1024, .f32⟩
  | 59 => ⟨S5x96x1024, .bf16⟩
  | 60 => ⟨S1x32, .f32⟩
  | 61 => ⟨S14x32, .f32⟩
  | 62 => ⟨S448, .f32⟩
  | 63 => ⟨S_, .i32⟩
  | 64 => ⟨S_, .f32⟩
  | 65 => ⟨S512, .f32⟩
  | 66 => ⟨S1x512, .f32⟩
  | 67 => ⟨S2x512, .f32⟩
  | 68 => ⟨S1024, .f32⟩
  | 69 => ⟨S1x1024, .f32⟩
  | 70 => ⟨S5x5x32x64, .f32⟩
  | 71 => ⟨S14, .i32⟩
  | 72 => ⟨S14x1, .i32⟩
  | 73 => ⟨S10, .i32⟩
  | 74 => ⟨S1x10, .i32⟩
  | 75 => ⟨S14x10, .i32⟩
  | 76 => ⟨S14x10, .i32⟩
  | 77 => ⟨S14x10, .i32⟩
  | 78 => ⟨S_, .i32⟩
  | 79 => ⟨S_, .i32⟩
  | 80 => ⟨S_, .i32⟩
  | 81 => ⟨S14x10, .i32⟩
  | 82 => ⟨S14x10, .i32⟩
  | 83 => ⟨S_, .i32⟩
  | 84 => ⟨S14x10, .i32⟩
  | 85 => ⟨S14x10, .i32⟩
  | 86 => ⟨S_, .i32⟩
  | 87 => ⟨S14x10, .i32⟩
  | 88 => ⟨S14x10, .i1⟩
  | 89 => ⟨S_, .i32⟩
  | 90 => ⟨S14x10, .i32⟩
  | 91 => ⟨S14x10, .i32⟩
  | 92 => ⟨S14x10, .i32⟩
  | 93 => ⟨S14x10x1, .i32⟩
  | 94 => ⟨S5x14x10x32x64, .f32⟩
  | 95 => ⟨S_, .i32⟩
  | 96 => ⟨S14x10, .i32⟩
  | 97 => ⟨S14x10, .i1⟩
  | 98 => ⟨S_, .i32⟩
  | 99 => ⟨S14x10, .i32⟩
  | 100 => ⟨S14x10, .i1⟩
  | 101 => ⟨S14x10, .i1⟩
  | 102 => ⟨S1x14x10x1x1, .i1⟩
  | 103 => ⟨S1x14x10x1x1, .f32⟩
  | 104 => ⟨S5x14x10x32x64, .f32⟩
  | 105 => ⟨S5x14x10x32x64, .f32⟩
  | 106 => ⟨S5x14x32x10x64, .f32⟩
  | 107 => ⟨S5x448x5x2x64, .f32⟩
  | 108 => ⟨S5x448x2x5x64, .f32⟩
  | 109 => ⟨S5x448x2x320, .f32⟩
  | 110 => ⟨S_, .i32⟩
  | 111 => ⟨S_, .f32⟩
  | 112 => ⟨S5x448x2x384, .f32⟩
  | 113 => ⟨S5x448x768, .f32⟩
  | 114 => ⟨S_, .i32⟩
  | 115 => ⟨S_, .f32⟩
  | 116 => ⟨S5x512x768, .f32⟩
  | 117 => ⟨S5x512x768, .bf16⟩
  | 118 => ⟨S1x64, .f32⟩
  | 119 => ⟨S5x64, .f32⟩
  | 120 => ⟨S320, .f32⟩
  | 121 => ⟨S_, .i32⟩
  | 122 => ⟨S_, .f32⟩
  | 123 => ⟨S384, .f32⟩
  | 124 => ⟨S1x384, .f32⟩
  | 125 => ⟨S2x384, .f32⟩
  | 126 => ⟨S768, .f32⟩
  | 127 => ⟨S1x768, .f32⟩
  | _ => ⟨S1024x3x32x32, .f32⟩

abbrev hbmTy0_1 (i : Nat) : BufTy := match i % 128 with
  | 0 => ⟨S512x64x5x5, .f32⟩
  | 1 => ⟨S5x5x64x512, .f32⟩
  | 2 => ⟨S5x320x512, .f32⟩
  | 3 => ⟨S_, .i32⟩
  | 4 => ⟨S_, .f32⟩
  | 5 => ⟨S5x384x512, .f32⟩
  | 6 => ⟨S5x384x512, .bf16⟩
  | 7 => ⟨S1x512, .f32⟩
  | 8 => ⟨S512x100, .f32⟩
  | 9 => ⟨S_, .i32⟩
  | 10 => ⟨S_, .f32⟩
  | 11 => ⟨S512x128, .f32⟩
  | 12 => ⟨S512x128, .bf16⟩
  | 13 => ⟨S_, .i32⟩
  | 14 => ⟨S_, .f32⟩
  | 15 => ⟨S128, .f32⟩
  | 16 => ⟨S1x128, .f32⟩
  | 17 => ⟨S512x100, .f32⟩
  | 18 => ⟨S_, .i32⟩
  | 19 => ⟨S_, .f32⟩
  | 20 => ⟨S512x128, .f32⟩
  | 21 => ⟨S512x100, .f32⟩
  | 22 => ⟨S_, .i32⟩
  | 23 => ⟨S_, .f32⟩
  | 24 => ⟨S512x128, .f32⟩
  | 25 => ⟨S_, .f32⟩
  | 26 => ⟨S_, .f32⟩
  | 27 => ⟨S128, .f32⟩
  | 28 => ⟨S1x128, .f32⟩
  | 29 => ⟨S1024x100, .f32⟩
  | _ => ⟨S1024x3x32x32, .f32⟩

abbrev hbmTy (i : Nat) : BufTy := match i / 128 with
  | 0 => hbmTy0_0 i
  | 1 => hbmTy0_1 i
  | _ => ⟨S1024x3x32x32, .f32⟩

abbrev bufTy : (tb : Table) → Fin (tcTables nBuf tb) → BufTy
  | .hbm, ⟨i, _⟩ => hbmTy i
  | .local _ .vmem, ⟨0, _⟩ => ⟨S32x128x96, .bf16⟩
  | .local _ .vmem, ⟨1, _⟩ => ⟨S32x128x96, .bf16⟩
  | .local _ .vmem, ⟨2, _⟩ => ⟨S5x96x1024, .bf16⟩
  | .local _ .vmem, ⟨3, _⟩ => ⟨S1x1024, .f32⟩
  | .local _ .vmem, ⟨4, _⟩ => ⟨S5x512x768, .bf16⟩
  | .local _ .vmem, ⟨5, _⟩ => ⟨S1x768, .f32⟩
  | .local _ .vmem, ⟨6, _⟩ => ⟨S5x384x512, .bf16⟩
  | .local _ .vmem, ⟨7, _⟩ => ⟨S1x512, .f32⟩
  | .local _ .vmem, ⟨8, _⟩ => ⟨S512x128, .bf16⟩
  | .local _ .vmem, ⟨9, _⟩ => ⟨S1x128, .f32⟩
  | .local _ .vmem, ⟨10, _⟩ => ⟨S512x128, .f32⟩
  | .local _ .vmem, ⟨11, _⟩ => ⟨S512x128, .f32⟩
  | .local _ .vmem, ⟨12, _⟩ => ⟨S1x128, .f32⟩
  | .local _ .vmem, ⟨13, _⟩ => ⟨S128x100, .f32⟩
  | .local _ .vmem, ⟨14, _⟩ => ⟨S128x100, .f32⟩
  | _, _ => ⟨S1024x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_c_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v11 : Ref sig .tc := ⟨.hbm, 30, rfl⟩
abbrev main_c_1 : Ref sig .tc := ⟨.hbm, 31, rfl⟩
abbrev main_v12 : Ref sig .tc := ⟨.hbm, 32, rfl⟩
abbrev main_v13 : Ref sig .tc := ⟨.hbm, 33, rfl⟩
abbrev main_c_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_3 : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_call1_v0 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_6 : Ref sig .tc := ⟨.hbm, 63, rfl⟩
abbrev main_call2_v0 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_7 : Ref sig .tc := ⟨.hbm, 78, rfl⟩
abbrev main_c_8 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_v51 : Ref sig .tc := ⟨.hbm, 85, rfl⟩
abbrev main_c_9 : Ref sig .tc := ⟨.hbm, 86, rfl⟩
abbrev main_v52 : Ref sig .tc := ⟨.hbm, 87, rfl⟩
abbrev main_v53 : Ref sig .tc := ⟨.hbm, 88, rfl⟩
abbrev main_c_10 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_c_11 : Ref sig .tc := ⟨.hbm, 95, rfl⟩
abbrev main_v59 : Ref sig .tc := ⟨.hbm, 96, rfl⟩
abbrev main_v60 : Ref sig .tc := ⟨.hbm, 97, rfl⟩
abbrev main_c_12 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_c_13 : Ref sig .tc := ⟨.hbm, 110, rfl⟩
abbrev main_call4_v0 : Ref sig .tc := ⟨.hbm, 111, rfl⟩
abbrev main_v72 : Ref sig .tc := ⟨.hbm, 112, rfl⟩
abbrev main_v73 : Ref sig .tc := ⟨.hbm, 113, rfl⟩
abbrev main_c_14 : Ref sig .tc := ⟨.hbm, 114, rfl⟩
abbrev main_call5_v0 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_c_15 : Ref sig .tc := ⟨.hbm, 121, rfl⟩
abbrev main_call6_v0 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_c_16 : Ref sig .tc := ⟨.hbm, 131, rfl⟩
abbrev main_call7_v0 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_c_17 : Ref sig .tc := ⟨.hbm, 137, rfl⟩
abbrev main_call8_v0 : Ref sig .tc := ⟨.hbm, 138, rfl⟩
abbrev main_v91 : Ref sig .tc := ⟨.hbm, 139, rfl⟩
abbrev main_v92 : Ref sig .tc := ⟨.hbm, 140, rfl⟩
abbrev main_c_18 : Ref sig .tc := ⟨.hbm, 141, rfl⟩
abbrev main_call9_v0 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_c_19 : Ref sig .tc := ⟨.hbm, 146, rfl⟩
abbrev main_call10_v0 : Ref sig .tc := ⟨.hbm, 147, rfl⟩
abbrev main_v96 : Ref sig .tc := ⟨.hbm, 148, rfl⟩
abbrev main_v97 : Ref sig .tc := ⟨.hbm, 149, rfl⟩
abbrev main_c_20 : Ref sig .tc := ⟨.hbm, 150, rfl⟩
abbrev main_call11_v0 : Ref sig .tc := ⟨.hbm, 151, rfl⟩
abbrev main_v98 : Ref sig .tc := ⟨.hbm, 152, rfl⟩
abbrev main_cst : Ref sig .tc := ⟨.hbm, 153, rfl⟩
abbrev main_call12_v0 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x96x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x512x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x384x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x100 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "emb_log_2pi" => some ((512 * (Real.log (13176795 / 2097152)) : ℝ) : EReal)
  | "mask" => some ⊥
  | _ => none
-- ==== ReferenceIdeal.lean ====
abbrev S1024x3x32x32 : Shape := ⟨4, ![1024, 3, 32, 32]⟩
abbrev S32x3x5x5 : Shape := ⟨4, ![32, 3, 5, 5]⟩
abbrev S32 : Shape := ⟨1, ![32]⟩
abbrev S64x32x5x5 : Shape := ⟨4, ![64, 32, 5, 5]⟩
abbrev S64 : Shape := ⟨1, ![64]⟩
abbrev S512x1600 : Shape := ⟨2, ![512, 1600]⟩
abbrev S512 : Shape := ⟨1, ![512]⟩
abbrev S100x512 : Shape := ⟨2, ![100, 512]⟩
abbrev S100 : Shape := ⟨1, ![100]⟩
abbrev S28 : Shape := ⟨1, ![28]⟩
abbrev S28x1 : Shape := ⟨2, ![28, 1]⟩
abbrev S5 : Shape := ⟨1, ![5]⟩
abbrev S1x5 : Shape := ⟨2, ![1, 5]⟩
abbrev S28x5 : Shape := ⟨2, ![28, 5]⟩
abbrev S_ : Shape := ⟨0, ![]⟩
abbrev S28x5x1 : Shape := ⟨3, ![28, 5, 1]⟩
abbrev S1024x3x28x5x32 : Shape := ⟨5, ![1024, 3, 28, 5, 32]⟩
abbrev S1024x3x28x5x28x5 : Shape := ⟨6, ![1024, 3, 28, 5, 28, 5]⟩
abbrev S32x1024x28x28 : Shape := ⟨4, ![32, 1024, 28, 28]⟩
abbrev S1024x32x28x28 : Shape := ⟨4, ![1024, 32, 28, 28]⟩
abbrev S1x32x1x1 : Shape := ⟨4, ![1, 32, 1, 1]⟩
abbrev S1024x32x14x14 : Shape := ⟨4, ![1024, 32, 14, 14]⟩
abbrev S10 : Shape := ⟨1, ![10]⟩
abbrev S10x1 : Shape := ⟨2, ![10, 1]⟩
abbrev S10x5 : Shape := ⟨2, ![10, 5]⟩
abbrev S10x5x1 : Shape := ⟨3, ![10, 5, 1]⟩
abbrev S1024x32x10x5x14 : Shape := ⟨5, ![1024, 32, 10, 5, 14]⟩
abbrev S1024x32x10x5x10x5 : Shape := ⟨6, ![1024, 32, 10, 5, 10, 5]⟩
abbrev S64x1024x10x10 : Shape := ⟨4, ![64, 1024, 10, 10]⟩
abbrev S1024x64x10x10 : Shape := ⟨4, ![1024, 64, 10, 10]⟩
abbrev S1x64x1x1 : Shape := ⟨4, ![1, 64, 1, 1]⟩
abbrev S1024x64x5x5 : Shape := ⟨4, ![1024, 64, 5, 5]⟩
abbrev S1024x1600 : Shape := ⟨2, ![1024, 1600]⟩
abbrev S1600x512 : Shape := ⟨2, ![1600, 512]⟩
abbrev S1024x512 : Shape := ⟨2, ![1024, 512]⟩
abbrev S1x512 : Shape := ⟨2, ![1, 512]⟩
abbrev S512x100 : Shape := ⟨2, ![512, 100]⟩
abbrev S1024x100 : Shape := ⟨2, ![1024, 100]⟩
abbrev S1x100 : Shape := ⟨2, ![1, 100]⟩
abbrev S1024x1x512 : Shape := ⟨3, ![1024, 1, 512]⟩
abbrev S1x100x512 : Shape := ⟨3, ![1, 100, 512]⟩
abbrev S1024x100x512 : Shape := ⟨3, ![1024, 100, 512]⟩
abbrev S1024 : Shape := ⟨1, ![1024]⟩
abbrev S1024x1 : Shape := ⟨2, ![1024, 1]⟩

abbrev nBuf : Space → Nat
  | .hbm => 163
  | .vmem => 0
  | .smem => 0
  | _ => 0

abbrev hbmTy0_0 (i : Nat) : BufTy := match i % 128 with
  | 0 => ⟨S1024x3x32x32, .f32⟩
  | 1 => ⟨S32x3x5x5, .f32⟩
  | 2 => ⟨S32, .f32⟩
  | 3 => ⟨S64x32x5x5, .f32⟩
  | 4 => ⟨S64, .f32⟩
  | 5 => ⟨S512x1600, .f32⟩
  | 6 => ⟨S512, .f32⟩
  | 7 => ⟨S100x512, .f32⟩
  | 8 => ⟨S100, .f32⟩
  | 9 => ⟨S100x512, .f32⟩
  | 10 => ⟨S100x512, .f32⟩
  | 11 => ⟨S100, .f32⟩
  | 12 => ⟨S28, .i32⟩
  | 13 => ⟨S28x1, .i32⟩
  | 14 => ⟨S5, .i32⟩
  | 15 => ⟨S1x5, .i32⟩
  | 16 => ⟨S28x5, .i32⟩
  | 17 => ⟨S28x5, .i32⟩
  | 18 => ⟨S28x5, .i32⟩
  | 19 => ⟨S_, .i32⟩
  | 20 => ⟨S28x5, .i32⟩
  | 21 => ⟨S28x5, .i1⟩
  | 22 => ⟨S_, .i32⟩
  | 23 => ⟨S28x5, .i32⟩
  | 24 => ⟨S28x5, .i32⟩
  | 25 => ⟨S28x5, .i32⟩
  | 26 => ⟨S28x5x1, .i32⟩
  | 27 => ⟨S1024x3x28x5x32, .f32⟩
  | 28 => ⟨S_, .i32⟩
  | 29 => ⟨S28x5, .i32⟩
  | 30 => ⟨S28x5, .i1⟩
  | 31 => ⟨S_, .i32⟩
  | 32 => ⟨S28x5, .i32⟩
  | 33 => ⟨S28x5, .i32⟩
  | 34 => ⟨S28x5, .i32⟩
  | 35 => ⟨S28x5x1, .i32⟩
  | 36 => ⟨S1024x3x28x5x28x5, .f32⟩
  | 37 => ⟨S32x1024x28x28, .f32⟩
  | 38 => ⟨S1024x32x28x28, .f32⟩
  | 39 => ⟨S1x32x1x1, .f32⟩
  | 40 => ⟨S1024x32x28x28, .f32⟩
  | 41 => ⟨S1024x32x28x28, .f32⟩
  | 42 => ⟨S_, .f32⟩
  | 43 => ⟨S1024x32x28x28, .f32⟩
  | 44 => ⟨S1024x32x28x28, .f32⟩
  | 45 => ⟨S_, .f32⟩
  | 46 => ⟨S_, .f32⟩
  | 47 => ⟨S1024x32x14x14, .f32⟩
  | 48 => ⟨S10, .i32⟩
  | 49 => ⟨S10x1, .i32⟩
  | 50 => ⟨S5, .i32⟩
  | 51 => ⟨S1x5, .i32⟩
  | 52 => ⟨S10x5, .i32⟩
  | 53 => ⟨S10x5, .i32⟩
  | 54 => ⟨S10x5, .i32⟩
  | 55 => ⟨S_, .i32⟩
  | 56 => ⟨S10x5, .i32⟩
  | 57 => ⟨S10x5, .i1⟩
  | 58 => ⟨S_, .i32⟩
  | 59 => ⟨S10x5, .i32⟩
  | 60 => ⟨S10x5, .i32⟩
  | 61 => ⟨S10x5, .i32⟩
  | 62 => ⟨S10x5x1, .i32⟩
  | 63 => ⟨S1024x32x10x5x14, .f32⟩
  | 64 => ⟨S_, .i32⟩
  | 65 => ⟨S10x5, .i32⟩
  | 66 => ⟨S10x5, .i1⟩
  | 67 => ⟨S_, .i32⟩
  | 68 => ⟨S10x5, .i32⟩
  | 69 => ⟨S10x5, .i32⟩
  | 70 => ⟨S10x5, .i32⟩
  | 71 => ⟨S10x5x1, .i32⟩
  | 72 => ⟨S1024x32x10x5x10x5, .f32⟩
  | 73 => ⟨S64x1024x10x10, .f32⟩
  | 74 => ⟨S1024x64x10x10, .f32⟩
  | 75 => ⟨S1x64x1x1, .f32⟩
  | 76 => ⟨S1024x64x10x10, .f32⟩
  | 77 => ⟨S1024x64x10x10, .f32⟩
  | 78 => ⟨S_, .f32⟩
  | 79 => ⟨S1024x64x10x10, .f32⟩
  | 80 => ⟨S1024x64x10x10, .f32⟩
  | 81 => ⟨S_, .f32⟩
  | 82 => ⟨S_, .f32⟩
  | 83 => ⟨S1024x64x5x5, .f32⟩
  | 84 => ⟨S1024x1600, .f32⟩
  | 85 => ⟨S1600x512, .f32⟩
  | 86 => ⟨S1024x512, .f32⟩
  | 87 => ⟨S1x512, .f32⟩
  | 88 => ⟨S1024x512, .f32⟩
  | 89 => ⟨S1024x512, .f32⟩
  | 90 => ⟨S_, .f32⟩
  | 91 => ⟨S1024x512, .f32⟩
  | 92 => ⟨S1024x512, .f32⟩
  | 93 => ⟨S512x100, .f32⟩
  | 94 => ⟨S1024x100, .f32⟩
  | 95 => ⟨S1x100, .f32⟩
  | 96 => ⟨S1024x100, .f32⟩
  | 97 => ⟨S1024x100, .f32⟩
  | 98 => ⟨S1024x1x512, .f32⟩
  | 99 => ⟨S1x100x512, .f32⟩
  | 100 => ⟨S1024x100x512, .f32⟩
  | 101 => ⟨S1024x100x512, .f32⟩
  | 102 => ⟨S1024x100x512, .f32⟩
  | 103 => ⟨S100x512, .f32⟩
  | 104 => ⟨S100x512, .f32⟩
  | 105 => ⟨S1024x100x512, .f32⟩
  | 106 => ⟨S1x100x512, .f32⟩
  | 107 => ⟨S1024x100x512, .f32⟩
  | 108 => ⟨S1024x100x512, .f32⟩
  | 109 => ⟨S_, .f32⟩
  | 110 => ⟨S1024x100, .f32⟩
  | 111 => ⟨S_, .f32⟩
  | 112 => ⟨S100, .f32⟩
  | 113 => ⟨S1x100, .f32⟩
  | 114 => ⟨S1024x100, .f32⟩
  | 115 => ⟨S1024x100, .f32⟩
  | 116 => ⟨S_, .f32⟩
  | 117 => ⟨S_, .f32⟩
  | 118 => ⟨S_, .f32⟩
  | 119 => ⟨S_, .f32⟩
  | 120 => ⟨S_, .f32⟩
  | 121 => ⟨S1024x100, .f32⟩
  | 122 => ⟨S1024x100, .f32⟩
  | 123 => ⟨S_, .f32⟩
  | 124 => ⟨S1024x100, .f32⟩
  | 125 => ⟨S1024x100, .f32⟩
  | 126 => ⟨S100, .f32⟩
  | 127 => ⟨S1x100, .f32⟩
  | _ => ⟨S1024x3x32x32, .f32⟩

abbrev hbmTy0_1 (i : Nat) : BufTy := match i % 128 with
  | 0 => ⟨S1024x100, .f32⟩
  | 1 => ⟨S1024x100, .f32⟩
  | 2 => ⟨S1024x100, .f32⟩
  | 3 => ⟨S_, .f32⟩
  | 4 => ⟨S1024, .f32⟩
  | 5 => ⟨S1024, .f32⟩
  | 6 => ⟨S_, .f32⟩
  | 7 => ⟨S_, .f32⟩
  | 8 => ⟨S_, .f32⟩
  | 9 => ⟨S1024, .f32⟩
  | 10 => ⟨S1024, .f32⟩
  | 11 => ⟨S_, .f32⟩
  | 12 => ⟨S1024, .f32⟩
  | 13 => ⟨S1024, .f32⟩
  | 14 => ⟨S1024, .f32⟩
  | 15 => ⟨S1024x1, .f32⟩
  | 16 => ⟨S_, .f32⟩
  | 17 => ⟨S1024, .f32⟩
  | 18 => ⟨S_, .f32⟩
  | 19 => ⟨S1024, .f32⟩
  | 20 => ⟨S1024, .f32⟩
  | 21 => ⟨S1024x1, .f32⟩
  | 22 => ⟨S1024x100, .f32⟩
  | 23 => ⟨S1024x100, .f32⟩
  | 24 => ⟨S1024x100, .f32⟩
  | 25 => ⟨S_, .f32⟩
  | 26 => ⟨S1024, .f32⟩
  | 27 => ⟨S1024x1, .f32⟩
  | 28 => ⟨S1024x100, .f32⟩
  | 29 => ⟨S1024x100, .f32⟩
  | 30 => ⟨S1024x100, .f32⟩
  | 31 => ⟨S1024x100, .f32⟩
  | 32 => ⟨S_, .f32⟩
  | 33 => ⟨S1024x100, .f32⟩
  | 34 => ⟨S1024x100, .f32⟩
  | _ => ⟨S1024x3x32x32, .f32⟩

abbrev hbmTy (i : Nat) : BufTy := match i / 128 with
  | 0 => hbmTy0_0 i
  | 1 => hbmTy0_1 i
  | _ => ⟨S1024x3x32x32, .f32⟩

abbrev bufTy : (tb : Table) → Fin (tcTables nBuf tb) → BufTy
  | .hbm, ⟨i, _⟩ => hbmTy i
  | _, _ => ⟨S1024x3x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call0_cst : Ref sig .tc := ⟨.hbm, 42, rfl⟩
abbrev main_call0_v0 : Ref sig .tc := ⟨.hbm, 43, rfl⟩
abbrev main_v26 : Ref sig .tc := ⟨.hbm, 44, rfl⟩
abbrev main_cst : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_3 : Ref sig .tc := ⟨.hbm, 55, rfl⟩
abbrev main_v36 : Ref sig .tc := ⟨.hbm, 56, rfl⟩
abbrev main_v37 : Ref sig .tc := ⟨.hbm, 57, rfl⟩
abbrev main_c_4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_5 : Ref sig .tc := ⟨.hbm, 64, rfl⟩
abbrev main_v43 : Ref sig .tc := ⟨.hbm, 65, rfl⟩
abbrev main_v44 : Ref sig .tc := ⟨.hbm, 66, rfl⟩
abbrev main_c_6 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_call1_cst : Ref sig .tc := ⟨.hbm, 78, rfl⟩
abbrev main_call1_v0 : Ref sig .tc := ⟨.hbm, 79, rfl⟩
abbrev main_v55 : Ref sig .tc := ⟨.hbm, 80, rfl⟩
abbrev main_cst_7 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call2_cst : Ref sig .tc := ⟨.hbm, 90, rfl⟩
abbrev main_call2_v0 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_8 : Ref sig .tc := ⟨.hbm, 109, rfl⟩
abbrev main_v81 : Ref sig .tc := ⟨.hbm, 110, rfl⟩
abbrev main_cst_9 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_10 : Ref sig .tc := ⟨.hbm, 116, rfl⟩
abbrev main_v86 : Ref sig .tc := ⟨.hbm, 117, rfl⟩
abbrev main_cst_11 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_12 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_13 : Ref sig .tc := ⟨.hbm, 131, rfl⟩
abbrev main_v98 : Ref sig .tc := ⟨.hbm, 132, rfl⟩
abbrev main_v99 : Ref sig .tc := ⟨.hbm, 133, rfl⟩
abbrev main_cst_14 : Ref sig .tc := ⟨.hbm, 134, rfl⟩
abbrev main_cst_15 : Ref sig .tc := ⟨.hbm, 135, rfl⟩
abbrev main_call3_v0 : Ref sig .tc := ⟨.hbm, 136, rfl⟩
abbrev main_call3_v1 : Ref sig .tc := ⟨.hbm, 137, rfl⟩
abbrev main_call3_v2 : Ref sig .tc := ⟨.hbm, 138, rfl⟩
abbrev main_call3_v3 : Ref sig .tc := ⟨.hbm, 139, rfl⟩
abbrev main_call3_v4 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_16 : Ref sig .tc := ⟨.hbm, 144, rfl⟩
abbrev main_v103 : Ref sig .tc := ⟨.hbm, 145, rfl⟩
abbrev main_cst_17 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_cst_18 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_19 : Ref sig .tc := ⟨.hbm, 160, rfl⟩
abbrev main_v116 : Ref sig .tc := ⟨.hbm, 161, rfl⟩
abbrev main_v117 : Ref sig .tc := ⟨.hbm, 162, rfl⟩

abbrev nD : Nat := 1
abbrev τ : Topo := Topo.v7x

variable {F : FTy → Type} [FloatOps F]
-- ==== Proof.Claims.lean ====
/- The claims about running: both kernels and the reference terminate with their arguments unchanged and every
   semaphore at zero, and the kernel's idealization differs from it only in its two named constants. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite
public import Idealize.ShloMosaic.Lib.Quiescent

@[expose] public section

noncomputable section

open Idealize.ShloMosaic Idealize.ShloMosaic.TcCoe Idealize.SL.Sem

namespace Cert.Proof.Running

/-- The kernel's frame. -/
theorem frame_p : Cert.quiescent_Kernel := fun m ρ _ => Cert.Kernel.Gen.frame m ρ

/-- The idealized kernel's frame. -/
theorem frame_pi : Cert.quiescent_KernelIdeal := fun m ρ _ => Cert.KernelIdeal.Gen.frame m ρ

/-- The reference's frame: a host program holds no semaphore. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The idealized kernel's frame holds under the precondition in particular. -/
theorem frame_pi_finite : Cert.quiescent_KernelIdeal_pre_finite := fun m ρ _ => frame_pi m ρ trivial

/-- The reference's frame holds under the precondition in particular. -/
theorem frame_ri_finite : Cert.quiescent_ReferenceIdeal_pre_finite := fun m ρ _ => frame_ri m ρ trivial

/-- Each named constant is the value the table gives it. -/
theorem preserves : Cert.preserves_Kernel_KernelIdeal :=
  ⟨IdealRules.named_const.statement Cert.KernelIdeal.κ "emb_log_2pi" .f32 0x446B3F8E#32
      ((512 * (Real.log (13176795 / 2097152)) : ℝ) : EReal) rfl,
   IdealRules.named_const.statement Cert.KernelIdeal.κ "mask" .f32 0xF149F2CA#32 ⊥ rfl⟩

end Cert.Proof.Running

end
-- ==== Proof.Spec.lean ====
/- The network and its density head as plain functions of natural-number coordinates over the extended reals: what both
   programs compute for one image. -/
module

public import Idealize.ShloMosaic.Lib.Pointwise

@[expose] public section

noncomputable section

open Idealize.ShloMosaic

namespace Cert.Net

/-! ## Arrays as functions of natural numbers -/

/-- A vector's element at a natural number, zero outside it. -/
def rd1 {a : ℕ} (X : (⟨1, ![a]⟩ : Shape).Idx → EReal) (i : ℕ) : EReal := if h : i < a then X (ix1 ⟨i, h⟩) else 0

/-- A matrix's element at natural numbers, zero outside it. -/
def rd2 {a b : ℕ} (X : (⟨2, ![a, b]⟩ : Shape).Idx → EReal) (i j : ℕ) : EReal :=
  if h : i < a ∧ j < b then X (ix2 ⟨i, h.1⟩ ⟨j, h.2⟩) else 0

/-- A rank-three array's element at natural numbers, zero outside it. -/
def rd3 {a b c : ℕ} (X : (⟨3, ![a, b, c]⟩ : Shape).Idx → EReal) (i j k : ℕ) : EReal :=
  if h : i < a ∧ j < b ∧ k < c then X (ix3 ⟨i, h.1⟩ ⟨j, h.2.1⟩ ⟨k, h.2.2⟩) else 0

/-- A rank-four array's element at natural numbers, zero outside it. -/
def rd4 {a b c d : ℕ} (X : (⟨4, ![a, b, c, d]⟩ : Shape).Idx → EReal) (i j k l : ℕ) : EReal :=
  if h : i < a ∧ j < b ∧ k < c ∧ l < d then X (ix4 ⟨i, h.1⟩ ⟨j, h.2.1⟩ ⟨k, h.2.2.1⟩ ⟨l, h.2.2.2⟩) else 0

theorem rd1_ix {a : ℕ} (X : (⟨1, ![a]⟩ : Shape).Idx → EReal) (i : Fin a) : X (ix1 i) = rd1 X i := by
  rw [rd1, dif_pos i.2]

theorem rd2_ix {a b : ℕ} (X : (⟨2, ![a, b]⟩ : Shape).Idx → EReal) (i : Fin a) (j : Fin b) : X (ix2 i j) = rd2 X i j := by
  rw [rd2, dif_pos ⟨i.2, j.2⟩]

theorem rd3_ix {a b c : ℕ} (X : (⟨3, ![a, b, c]⟩ : Shape).Idx → EReal) (i : Fin a) (j : Fin b) (k : Fin c) :
    X (ix3 i j k) = rd3 X i j k := by
  rw [rd3, dif_pos ⟨i.2, j.2, k.2⟩]

theorem rd4_ix {a b c d : ℕ} (X : (⟨4, ![a, b, c, d]⟩ : Shape).Idx → EReal) (i : Fin a) (j : Fin b) (k : Fin c) (l : Fin d) :
    X (ix4 i j k l) = rd4 X i j k l := by
  rw [rd4, dif_pos ⟨i.2, j.2, k.2, l.2⟩]

/-! ## The network -/

/-- A five by five convolution over `C` channels: output channel `o`, row `y`, column `x`. -/
def conv (C : ℕ) (X : ℕ → ℕ → ℕ → EReal) (W : ℕ → ℕ → ℕ → ℕ → EReal) (o y x : ℕ) : EReal :=
  ∑ c : Fin C, ∑ k : Fin 5, ∑ l : Fin 5, X c (y + k) (x + l) * W o c k l

/-- The convolution with its bias, cut off below at zero. -/
def act (C : ℕ) (X : ℕ → ℕ → ℕ → EReal) (W : ℕ → ℕ → ℕ → ℕ → EReal) (B : ℕ → EReal) (o y x : ℕ) : EReal :=
  max (conv C X W o y x + B o) 0

/-- A convolution layer: the largest activation of each two by two window. -/
def layer (C : ℕ) (X : ℕ → ℕ → ℕ → EReal) (W : ℕ → ℕ → ℕ → ℕ → EReal) (B : ℕ → EReal) (o y x : ℕ) : EReal :=
  max (max (max (act C X W B o (2 * y) (2 * x)) (act C X W B o (2 * y) (2 * x + 1))) (act C X W B o (2 * y + 1) (2 * x)))
    (act C X W B o (2 * y + 1) (2 * x + 1))

/-- The embedding: a dense layer over the 64 maps of 5 by 5, cut off below at zero. -/
def embed (H : ℕ → ℕ → ℕ → EReal) (F : ℕ → ℕ → EReal) (B : ℕ → EReal) (j : ℕ) : EReal :=
  max (∑ i : Fin 1600, H (i / 25) (i % 25 / 5) (i % 5) * F j i + B j) 0

/-- A class's score. -/
def score (e : ℕ → EReal) (A : ℕ → ℕ → EReal) (B : ℕ → EReal) (n : ℕ) : EReal :=
  ∑ j : Fin 512, e j * A n j + B n

/-- The squared distance of the embedding from a class's mean, each coordinate over its variance. -/
def dist (e : ℕ → EReal) (mu lv : ℕ → ℕ → EReal) (n : ℕ) : EReal :=
  ∑ j : Fin 512, (e j - mu n j) * (e j - mu n j) * Ideal.exp (-lv n j)

/-- A class's log density with its log frequency: `h` the factor −1/2, `g` the constant 512·log 2π. -/
def dens (h g : EReal) (e : ℕ → EReal) (mu lv : ℕ → ℕ → EReal) (lf : ℕ → EReal) (n : ℕ) : EReal :=
  h * (dist e mu lv n + ∑ j : Fin 512, lv n j + g) + Ideal.log (lf n)

/-- The evidence: the exponential of the log of the total density, held between `lo` and `hi`. -/
def evid (lo hi : EReal) (d : ℕ → EReal) : EReal :=
  Ideal.exp (min hi (max lo (Ideal.log (∑ n : Fin 100, Ideal.exp (d n)))))

/-- The softmax of a hundred scores. -/
def soft (s : ℕ → EReal) (n : ℕ) : EReal :=
  Ideal.div (Ideal.exp (s n - Finset.univ.sup fun k : Fin 100 => s k))
    (∑ k : Fin 100, Ideal.exp (s k - Finset.univ.sup fun k : Fin 100 => s k))

/-- An image's embedding: two convolution layers and the dense one. -/
def feat (X : ℕ → ℕ → ℕ → EReal) (W1 : ℕ → ℕ → ℕ → ℕ → EReal) (B1 : ℕ → EReal) (W2 : ℕ → ℕ → ℕ → ℕ → EReal) (B2 : ℕ → EReal)
    (F : ℕ → ℕ → EReal) (B : ℕ → EReal) (j : ℕ) : EReal :=
  embed (layer 32 (layer 3 X W1 B1) W2 B2) F B j

/-- One plus the evidence shared out by the softmax. -/
def alpha (lo hi h g : EReal) (e : ℕ → EReal) (A : ℕ → ℕ → EReal) (B : ℕ → EReal) (mu lv : ℕ → ℕ → EReal) (lf : ℕ → EReal) (n : ℕ) :
    EReal :=
  1 + evid lo hi (dens h g e mu lv lf) * soft (score e A B) n

/-- An activation reads its channels' five by five windows alone. -/
theorem act_congr {C : ℕ} {X X' : ℕ → ℕ → ℕ → EReal} {W : ℕ → ℕ → ℕ → ℕ → EReal} {B : ℕ → EReal} {o y x : ℕ}
    (h : ∀ c < C, ∀ k < 5, ∀ l < 5, X c (y + k) (x + l) = X' c (y + k) (x + l)) : act C X W B o y x = act C X' W B o y x := by
  unfold act conv
  simp only [fun (c : Fin C) (k l : Fin 5) => h c c.2 k k.2 l l.2]

/-- The second layer reads the first's 32 maps of 14 by 14 alone. -/
theorem layer_congr {X X' : ℕ → ℕ → ℕ → EReal} {W : ℕ → ℕ → ℕ → ℕ → EReal} {B : ℕ → EReal}
    (h : ∀ c < 32, ∀ y < 14, ∀ x < 14, X c y x = X' c y x) {o y x : ℕ} (hy : y < 5) (hx : x < 5) :
    layer 32 X W B o y x = layer 32 X' W B o y x := by
  unfold layer
  rw [act_congr fun c hc k hk l hl => h c hc _ (by omega) _ (by omega), act_congr fun c hc k hk l hl => h c hc _ (by omega) _ (by omega),
    act_congr fun c hc k hk l hl => h c hc _ (by omega) _ (by omega), act_congr fun c hc k hk l hl => h c hc _ (by omega) _ (by omega)]

theorem evid_congr (lo hi : EReal) {f g : ℕ → EReal} (h : ∀ n < 100, f n = g n) : evid lo hi f = evid lo hi g := by
  unfold evid
  simp only [fun n : Fin 100 => h n n.2]

theorem soft_congr {f g : ℕ → EReal} (h : ∀ n < 100, f n = g n) {n : ℕ} (hn : n < 100) : soft f n = soft g n := by
  unfold soft
  simp only [fun n : Fin 100 => h n n.2, h n hn]

/-- What is read at class `n` and coordinates below 512 alone decides the result. -/
theorem alpha_congr (lo hi h g : EReal) {e e' : ℕ → EReal} {A A' : ℕ → ℕ → EReal} {B B' : ℕ → EReal} {mu mu' lv lv' : ℕ → ℕ → EReal}
    {lf lf' : ℕ → EReal} (he : ∀ j < 512, e j = e' j) (hA : ∀ n < 100, ∀ j < 512, A n j = A' n j) (hB : ∀ n < 100, B n = B' n)
    (hmu : ∀ n < 100, ∀ j < 512, mu n j = mu' n j) (hlv : ∀ n < 100, ∀ j < 512, lv n j = lv' n j) (hlf : ∀ n < 100, lf n = lf' n)
    {n : ℕ} (hn : n < 100) : alpha lo hi h g e A B mu lv lf n = alpha lo hi h g e' A' B' mu' lv' lf' n := by
  have hd : ∀ k < 100, dens h g e mu lv lf k = dens h g e' mu' lv' lf' k := by
    intro k hk
    unfold dens dist
    simp only [fun j : Fin 512 => he j j.2, fun j : Fin 512 => hmu k hk j j.2, fun j : Fin 512 => hlv k hk j j.2, hlf k hk]
  have hs : ∀ k < 100, score e A B k = score e' A' B' k := by
    intro k hk
    unfold score
    simp only [fun j : Fin 512 => he j j.2, fun j : Fin 512 => hA k hk j j.2, hB k hk]
  unfold alpha
  rw [evid_congr lo hi hd, soft_congr hs hn]

/-- The result for image `b` and class `n`, from the twelve arguments. -/
def net (X : ℕ → ℕ → ℕ → ℕ → EReal) (W1 : ℕ → ℕ → ℕ → ℕ → EReal) (B1 : ℕ → EReal) (W2 : ℕ → ℕ → ℕ → ℕ → EReal) (B2 : ℕ → EReal)
    (F : ℕ → ℕ → EReal) (B : ℕ → EReal) (A : ℕ → ℕ → EReal) (AB : ℕ → EReal) (mu lv : ℕ → ℕ → EReal) (lf : ℕ → EReal) (b n : ℕ) : EReal :=
  alpha (Ideal.ofBits .f32 0xC1F00000#32) (Ideal.ofBits .f32 0x41F00000#32) ((-(1 / 2) : ℝ) : EReal)
    ((512 * Real.log (13176795 / 2097152) : ℝ) : EReal) (feat (X b) W1 B1 W2 B2 F B) A AB mu lv lf n

end Cert.Net

end
-- ==== Proof.Body.lean ====
/- What one grid point computes, each stage of the body read at an index. -/
module

public import proofs.«01_k».proof.Proof.Gen.KernelIdeal.Frame
public import proofs.«01_k».proof.Proof.Spec

@[expose] public section

set_option maxRecDepth 16384

noncomputable section

open Idealize.ShloMosaic

namespace Cert.KernelIdeal.Body

open Cert.KernelIdeal Cert.KernelIdeal.Gen Cert.Net

/-- The largest over two neighbouring rows and the two halves of the lanes, `h` apart. -/
def pool (h : ℕ) (g : ℕ → ℕ → ℕ → EReal) (p r q : ℕ) : EReal :=
  max (max (g (2 * p) r q) (g (2 * p + 1) r q)) (max (g (2 * p) r (h + q)) (g (2 * p + 1) r (h + q)))

/-- The product of rows `y` to `y + 4` with five matrices of `K` rows, biased and cut off below at zero. -/
def rows (K : ℕ) (X W : ℕ → ℕ → ℕ → EReal) (B : ℕ → EReal) (y r q : ℕ) : EReal :=
  max (∑ a : Fin 5, ∑ k : Fin K, X (y + a) r k * W a k q + B q) 0

variable (x0 : Vec Ideal S32x128x96 .bf16) (x1 : Vec Ideal S5x96x1024 .bf16) (x2 : Vec Ideal S1x1024 .f32)
  (x3 : Vec Ideal S5x512x768 .bf16) (x4 : Vec Ideal S1x768 .f32) (x5 : Vec Ideal S5x384x512 .bf16) (x6 : Vec Ideal S1x512 .f32)

/-- The first pooled layer: row `p`, image `r` of the block, lane `q`. -/
theorem pool1_at (p : Fin 14) (r : Fin 128) (q : Fin 512) :
    k0_pay4 (k0_pay2 (View.ld x0 r0_0) (View.ld x1 r0_1) (View.ld x1 r0_2) (View.ld x1 r0_3) (View.ld x1 r0_4) (View.ld x1 r0_5))
        (k0_pay3 (View.ld x2 r0_6)) (ix3 p r q)
      = pool 512 (rows 96 (rd3 x0) (rd3 x1) (rd2 x2 0)) p r q := by
  have hr := r.2
  pointwise [k0_pay4, k0_pay2, k0_pay3]
  simp only [rd3_ix x0, rd3_ix x1, rd2_ix x2, pool, rows, Fin.sum_univ_five]
  have e0 : ((p : ℕ) * 256 + r) / 128 = 2 * p := by omega
  have e1 : ((p : ℕ) * 256 + (128 + r)) / 128 = 2 * p + 1 := by omega
  simp only [e0, e1, Nat.add_comm 1 (2 * (p : ℕ)), Nat.add_comm 2 (2 * (p : ℕ)), Nat.add_comm 3 (2 * (p : ℕ)),
    Nat.add_comm 4 (2 * (p : ℕ)), Nat.add_comm 1 (2 * (p : ℕ) + 1), Nat.add_comm 2 (2 * (p : ℕ) + 1),
    Nat.add_comm 3 (2 * (p : ℕ) + 1), Nat.add_comm 4 (2 * (p : ℕ) + 1)]
  rfl

/-- The second pooled layer, from the first one read as `P`. -/
theorem pool2_at (A B : FVec Ideal S3584x1024 .f32) (P : ℕ → ℕ → ℕ → EReal)
    (hP : ∀ (p : Fin 14) (r : Fin 128) (q : Fin 512), k0_pay4 A B (ix3 p r q) = P p r q)
    (p : Fin 5) (r : Fin 128) (q : Fin 384) :
    k0_pay7 (k0_pay5 A B (View.ld x3 r0_7) (View.ld x3 r0_8) (View.ld x3 r0_9) (View.ld x3 r0_10))
        (k0_pay6 A B (View.ld x3 r0_11)) (View.ld x4 r0_12) (ix3 p r q)
      = pool 384 (rows 512 P (rd3 x3) (rd2 x4 0)) p r q := by
  have hr := r.2
  pointwise [k0_pay7, k0_pay5, k0_pay6]
  simp only [hP, rd3_ix x3, rd2_ix x4, pool, rows, Fin.sum_univ_five]
  have e0 : ((p : ℕ) * 256 + r) / 128 = 2 * p := by omega
  have e1 : ((p : ℕ) * 256 + (128 + r)) / 128 = 2 * p + 1 := by omega
  simp only [e0, e1, Nat.add_comm 1 (2 * (p : ℕ)), Nat.add_comm 2 (2 * (p : ℕ)), Nat.add_comm 3 (2 * (p : ℕ)),
    Nat.add_comm 4 (2 * (p : ℕ)), Nat.add_comm 1 (2 * (p : ℕ) + 1), Nat.add_comm 2 (2 * (p : ℕ) + 1),
    Nat.add_comm 3 (2 * (p : ℕ) + 1), Nat.add_comm 4 (2 * (p : ℕ) + 1)]
  rfl

/-- The embedding, from the second pooled layer read as `P`. -/
theorem embed_at (A B : FVec Ideal S1280x768 .f32) (C : Vec Ideal S1x768 .f32) (P : ℕ → ℕ → ℕ → EReal)
    (hP : ∀ (p : Fin 5) (r : Fin 128) (q : Fin 384), k0_pay7 A B C (ix3 p r q) = P p r q)
    (r : Fin 128) (j : Fin 512) :
    k0_pay10 (k0_pay8 A B C (View.ld x5 r0_13) (View.ld x5 r0_14) (View.ld x5 r0_15) (View.ld x5 r0_16))
        (k0_pay9 A B C) (View.ld x5 r0_17) (View.ld x6 r0_18) (ix2 r j)
      = max (∑ y : Fin 5, ∑ k : Fin 384, P y r k * rd3 x5 y k j + rd2 x6 0 j) 0 := by
  pointwise [k0_pay10, k0_pay8, k0_pay9]
  simp only [hP, rd3_ix x5, rd2_ix x6, Fin.sum_univ_five]
  rfl

/-- The embedding of image `r` of the block. -/
def emb (r j : ℕ) : EReal :=
  max (∑ y : Fin 5, ∑ k : Fin 384,
    pool 384 (rows 512 (pool 512 (rows 96 (rd3 x0) (rd3 x1) (rd2 x2 0))) (rd3 x3) (rd2 x4 0)) y r k * rd3 x5 y k j + rd2 x6 0 j) 0

variable (x7 : Vec Ideal S512x128 .bf16) (x8 : Vec Ideal S1x128 .f32) (x9 x10 : Vec Ideal S512x128 .f32) (x11 : Vec Ideal S1x128 .f32)

/-- What the body holds as the embedding. -/
theorem emb_at (r : Fin 128) (j : Fin 512) :
    k0_pay10 (k0_pay29 x0 x1 x2 x3 x4 x5 x6 x7 x8 x9 x10 x11) (k0_pay30 x0 x1 x2 x3 x4 x5 x6 x7 x8 x9 x10 x11)
        (View.ld x5 r0_17) (View.ld x6 r0_18) (ix2 r j)
      = emb x0 x1 x2 x3 x4 x5 x6 r j := by
  unfold k0_pay29 k0_pay30 k0_pay28 k0_pay27 k0_pay26 k0_pay25
  exact embed_at x5 x6 _ _ _ _ (pool2_at x3 x4 _ _ _ (pool1_at x0 x1 x2)) r j

end Cert.KernelIdeal.Body

end
-- ==== Proof.Reals.lean ====
/- Extended-real facts of the density head: the squared distance multiplied out where everything is finite, and the
   log of a sum of exponentials taken relative to the largest. -/
module

public import proofs.«01_k».proof.Proof.Spec

@[expose] public section

noncomputable section

open Finset Idealize.ShloMosaic

namespace Cert.Net

/-! ## Finite values -/

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.max {x y : EReal} (hx : IsReal x) (hy : IsReal y) : IsReal (max x y) := by
  rcases max_choice x y with h | h
  · rw [h]; exact hx
  · rw [h]; exact hy

theorem isReal_zero : IsReal 0 := ⟨0, rfl⟩

theorem isReal_sum {ι : Type*} (s : Finset ι) (f : ι → EReal) (h : ∀ i, IsReal (f i)) : IsReal (∑ i ∈ s, f i) := by
  classical
  induction s using Finset.induction_on with
  | empty => rw [sum_empty]; exact isReal_zero
  | insert a s ha ih => rw [sum_insert ha]; exact (h a).add ih

theorem isReal_exp {x : EReal} (hx : IsReal x) : IsReal (Ideal.exp x) := by
  obtain ⟨a, rfl⟩ := hx
  exact ⟨Real.exp a, rfl⟩

theorem isReal_rd1 {a : ℕ} {X : (⟨1, ![a]⟩ : Shape).Idx → EReal} (h : ∀ i, IsReal (X i)) (i : ℕ) : IsReal (rd1 X i) := by
  unfold rd1
  split
  · exact h _
  · exact isReal_zero

theorem isReal_rd2 {a b : ℕ} {X : (⟨2, ![a, b]⟩ : Shape).Idx → EReal} (h : ∀ i, IsReal (X i)) (i j : ℕ) : IsReal (rd2 X i j) := by
  unfold rd2
  split
  · exact h _
  · exact isReal_zero

theorem isReal_rd4 {a b c d : ℕ} {X : (⟨4, ![a, b, c, d]⟩ : Shape).Idx → EReal} (h : ∀ i, IsReal (X i)) (i j k l : ℕ) :
    IsReal (rd4 X i j k l) := by
  unfold rd4
  split
  · exact h _
  · exact isReal_zero

theorem isReal_act {C : ℕ} {X : ℕ → ℕ → ℕ → EReal} {W : ℕ → ℕ → ℕ → ℕ → EReal} {B : ℕ → EReal} (hX : ∀ c y x, IsReal (X c y x))
    (hW : ∀ o c k l, IsReal (W o c k l)) (hB : ∀ o, IsReal (B o)) (o y x : ℕ) : IsReal (act C X W B o y x) := by
  unfold act conv
  exact ((isReal_sum _ _ fun _ => isReal_sum _ _ fun _ => isReal_sum _ _ fun _ => (hX _ _ _).mul (hW _ _ _ _)).add (hB o)).max isReal_zero

theorem isReal_layer {C : ℕ} {X : ℕ → ℕ → ℕ → EReal} {W : ℕ → ℕ → ℕ → ℕ → EReal} {B : ℕ → EReal} (hX : ∀ c y x, IsReal (X c y x))
    (hW : ∀ o c k l, IsReal (W o c k l)) (hB : ∀ o, IsReal (B o)) (o y x : ℕ) : IsReal (layer C X W B o y x) := by
  have h := isReal_act (C := C) hX hW hB
  exact (((h _ _ _).max (h _ _ _)).max (h _ _ _)).max (h _ _ _)

/-- The embedding of real arguments is real. -/
theorem isReal_feat {X : ℕ → ℕ → ℕ → EReal} {W1 : ℕ → ℕ → ℕ → ℕ → EReal} {B1 : ℕ → EReal} {W2 : ℕ → ℕ → ℕ → ℕ → EReal} {B2 : ℕ → EReal}
    {F : ℕ → ℕ → EReal} {B : ℕ → EReal} (hX : ∀ c y x, IsReal (X c y x)) (h1 : ∀ o c k l, IsReal (W1 o c k l)) (h2 : ∀ o, IsReal (B1 o))
    (h3 : ∀ o c k l, IsReal (W2 o c k l)) (h4 : ∀ o, IsReal (B2 o)) (h5 : ∀ j i, IsReal (F j i)) (h6 : ∀ j, IsReal (B j)) (j : ℕ) :
    IsReal (feat X W1 B1 W2 B2 F B j) := by
  unfold feat embed
  exact ((isReal_sum _ _ fun _ => (isReal_layer (isReal_layer hX h1 h2) h3 h4 _ _ _).mul (h5 _ _)).add (h6 j)).max isReal_zero

/-- The log of a real is below infinity. -/
theorem log_ne_top {x : EReal} (hx : IsReal x) : Ideal.log x ≠ ⊤ := by
  obtain ⟨a, rfl⟩ := hx
  show (if a ≤ 0 then (⊥ : EReal) else (Real.log a : EReal)) ≠ ⊤
  split
  · exact bot_ne_top
  · exact EReal.coe_ne_top _

theorem IsReal.add_ne_top {x y : EReal} (hx : IsReal x) (hy : y ≠ ⊤) : x + y ≠ ⊤ := by
  obtain ⟨a, rfl⟩ := hx
  exact EReal.add_ne_top (EReal.coe_ne_top a) hy

/-- The coercion of a finite sum of reals. -/
theorem coe_sum {ι : Type*} (s : Finset ι) (f : ι → ℝ) : ((∑ i ∈ s, f i : ℝ) : EReal) = ∑ i ∈ s, (f i : EReal) := by
  classical
  induction s using Finset.induction_on with
  | empty => rw [sum_empty, sum_empty]; rfl
  | insert a s ha ih => rw [sum_insert ha, sum_insert ha, EReal.coe_add, ih]

/-- The squared distance multiplied out, every term finite. -/
theorem dist_expand (e m v : Fin 512 → EReal) (he : ∀ j, IsReal (e j)) (hm : ∀ j, IsReal (m j)) (hv : ∀ j, IsReal (v j)) :
    ∑ j, e j * e j * v j - ((2 : ℝ) : EReal) * ∑ j, e j * (m j * v j) + ∑ j, m j * m j * v j
      = ∑ j, (e j - m j) * (e j - m j) * v j := by
  choose e' he using he
  choose m' hm using hm
  choose v' hv using hv
  simp only [he, hm, hv, ← EReal.coe_mul, ← EReal.coe_sub, ← coe_sum, ← EReal.coe_add]
  congr 1
  rw [mul_sum, ← sum_sub_distrib, ← sum_add_distrib]
  exact sum_congr rfl fun j _ => by ring

/-! ## Exponentials relative to the largest -/

/-- The exponential of `x` minus a real. -/
theorem exp_sub_coe (x : EReal) (hx : x ≠ ⊤) (m : ℝ) :
    ∃ r : ℝ, 0 ≤ r ∧ Ideal.exp x = (r : EReal) ∧ Ideal.exp (x - (m : EReal)) = ((r * Real.exp (-m) : ℝ) : EReal)
      ∧ (x = (m : EReal) → 0 < r) := by
  induction x using EReal.rec with
  | bot =>
    refine ⟨0, le_rfl, rfl, ?_, fun h => absurd h (EReal.bot_ne_coe m)⟩
    rw [sub_eq_add_neg, EReal.bot_add, zero_mul]
    rfl
  | coe a =>
    refine ⟨Real.exp a, (Real.exp_pos a).le, rfl, ?_, fun _ => Real.exp_pos a⟩
    rw [← EReal.coe_sub, ← Real.exp_add, ← sub_eq_add_neg]
    rfl
  | top => exact absurd rfl hx

theorem log_coe_pos {r : ℝ} (h : 0 < r) : Ideal.log (r : EReal) = (Real.log r : EReal) :=
  if_neg (not_le.2 h)

/-- The log of a sum of exponentials, taken relative to the largest of the exponents, none of them infinity. -/
theorem log_sum_exp {n : ℕ} (l : Fin n → EReal) (hl : ∀ i, l i ≠ ⊤) :
    Finset.univ.sup l + Ideal.log (∑ i, Ideal.exp (l i - Finset.univ.sup l)) = Ideal.log (∑ i, Ideal.exp (l i)) := by
  by_cases hb : ∀ i, l i = ⊥
  · have h0 : Finset.univ.sup l = ⊥ := (Finset.sup_eq_bot_iff _ _).2 fun i _ => hb i
    rw [h0, EReal.bot_add, sum_congr rfl fun i _ => show Ideal.exp (l i) = 0 by rw [hb i]; rfl, sum_const_zero]
    exact (if_pos le_rfl).symm
  · obtain ⟨i0, hi0⟩ := not_forall.1 hb
    obtain ⟨i1, _, h1⟩ := Finset.exists_mem_eq_sup (Finset.univ : Finset (Fin n)) ⟨i0, mem_univ _⟩ l
    have hle : l i0 ≤ Finset.univ.sup l := Finset.le_sup (mem_univ i0)
    have hm : ∃ m : ℝ, l i1 = (m : EReal) := by
      have hne : l i1 ≠ ⊥ := fun h => hi0 (le_bot_iff.1 (by rw [← h, ← h1]; exact hle))
      exact ⟨(l i1).toReal, (EReal.coe_toReal (hl i1) hne).symm⟩
    obtain ⟨m, hm⟩ := hm
    rw [h1, hm]
    choose r hr0 hr hrm hrp using fun i => exp_sub_coe (l i) (hl i) m
    simp only [hr, hrm, ← coe_sum, ← sum_mul]
    have hpos : 0 < ∑ i, r i := sum_pos' (fun i _ => hr0 i) ⟨i1, mem_univ _, hrp i1 hm⟩
    rw [log_coe_pos hpos, log_coe_pos (mul_pos hpos (Real.exp_pos _)), Real.log_mul hpos.ne' (Real.exp_pos _).ne', Real.log_exp,
      ← EReal.coe_add]
    congr 1
    ring

/-! ## A hundred lanes of a hundred and twenty-eight -/

/-- Lanes past the hundredth hold minus infinity: the largest is that of the hundred. -/
theorem sup_lanes (f : ℕ → EReal) :
    (Finset.univ.sup fun k : Fin 128 => if (k : ℕ) < 100 then f k else ⊥) = Finset.univ.sup fun k : Fin 100 => f k := by
  refine le_antisymm (Finset.sup_le fun k _ => ?_) (Finset.sup_le fun k _ => ?_)
  · split
    · rename_i h
      exact Finset.le_sup (f := fun k : Fin 100 => f k) (mem_univ (⟨k, h⟩ : Fin 100))
    · exact bot_le
  · have := Finset.le_sup (f := fun k : Fin 128 => if (k : ℕ) < 100 then f k else ⊥) (mem_univ (⟨k, by omega⟩ : Fin 128))
    simpa only [k.2, if_true] using this

/-- Lanes past the hundredth hold zero: the sum is that of the hundred. -/
theorem sum_lanes (f : ℕ → EReal) :
    (∑ k : Fin 128, if (k : ℕ) < 100 then f k else 0) = ∑ k : Fin 100, f k := by
  rw [Fin.sum_univ_eq_sum_range (fun k => if k < 100 then f k else 0) 128, Fin.sum_univ_eq_sum_range f 100,
    show 128 = 100 + 28 from rfl, sum_range_add, sum_eq_zero (s := range 28) fun i hi => if_neg (by omega), add_zero]
  exact sum_congr rfl fun i hi => if_pos (mem_range.1 hi)

/-- The exponential of a lane that holds minus infinity, less anything, is zero. -/
theorem exp_lane (p : Prop) [Decidable p] (x m : EReal) :
    Ideal.exp ((if p then x else ⊥) - m) = if p then Ideal.exp (x - m) else 0 := by
  split
  · rfl
  · rw [sub_eq_add_neg, EReal.bot_add]
    rfl

end Cert.Net

end
-- ==== Proof.Consts.lean ====
/- The constants of both programs as extended reals, and the lane mask as a condition. -/
module

public import proofs.«01_k».proof.KernelIdeal
public import Idealize.ShloMosaic.Lib.Pointwise

@[expose] public section

noncomputable section

open Idealize.ShloMosaic

namespace Cert.Consts

theorem two : Ideal.ofBits .f32 0x40000000#32 = ((2 : ℝ) : EReal) := by
  simp [Ideal.ofBits, Ideal.ieee, -EReal.coe_mul]
  try norm_num

theorem neg_half : Ideal.ofBits .f32 0xBF000000#32 = ((-(1 / 2) : ℝ) : EReal) := by
  simp [Ideal.ofBits, Ideal.ieee, -EReal.coe_mul]
  try norm_num

theorem bot : Ideal.ofBits .f32 0xFF800000#32 = ⊥ := by
  simp [Ideal.ofBits, Ideal.ieee]

theorem top : Ideal.ofBits .f32 0x7F800000#32 = ⊤ := by
  simp [Ideal.ofBits, Ideal.ieee]

theorem dims : Ideal.ofBits .f32 0x44000000#32 = ((512 : ℝ) : EReal) := by
  simp [Ideal.ofBits, Ideal.ieee, -EReal.coe_mul]
  try norm_num

theorem two_pi : Ideal.ofBits .f32 0x40C90FDB#32 = ((13176795 / 2097152 : ℝ) : EReal) := by
  simp [Ideal.ofBits, Ideal.ieee, -EReal.coe_mul]
  try norm_num

/-- The log-density constant as the reference computes it. -/
theorem dims_log : Ideal.ofBits .f32 0x44000000#32 * Ideal.log (Ideal.ofBits .f32 0x40C90FDB#32)
    = ((512 * Real.log (13176795 / 2097152) : ℝ) : EReal) := by
  rw [dims, two_pi, show Ideal.log ((13176795 / 2097152 : ℝ) : EReal) = ((Real.log (13176795 / 2097152) : ℝ) : EReal) from
    if_neg (by norm_num), EReal.coe_mul]

theorem emb : Named.named (F := Ideal) Cert.KernelIdeal.κ "emb_log_2pi" (φ := .f32) 0x446B3F8E#32
    = ((512 * Real.log (13176795 / 2097152) : ℝ) : EReal) :=
  IdealRules.named_const.ideal_named_scalar _ _ _ _ rfl

theorem mask : Named.named (F := Ideal) Cert.KernelIdeal.κ "mask" (φ := .f32) 0xF149F2CA#32 = (⊥ : EReal) :=
  IdealRules.named_const.ideal_named_scalar _ _ _ _ rfl

theorem lane_word : ∀ x : Fin 128, IntOp.cmpi .slt (BitVec.ofNat 32 x) 100#32 = if (x : ℕ) < 100 then 1#1 else 0#1 := by
  decide

/-- Selecting on the lane mask. -/
theorem lane {α : Type} (x : Fin 128) (a b : α) :
    Scalar.select (IntOp.cmpi .slt (BitVec.ofNat 32 x) 100#32) a b = if (x : ℕ) < 100 then a else b := by
  rw [lane_word]
  split <;> rfl

/-- The largest of a family, as a fold from minus infinity. -/
theorem fold_max {n : ℕ} (f : Fin n → EReal) : Finset.fold max (⊥ : EReal) f Finset.univ = Finset.univ.sup f := rfl

end Cert.Consts

end
-- ==== Proof.Head.lean ====
/- What one grid point stores: the density head over the embedding. -/
module

public import proofs.«01_k».proof.Proof.Body
public import proofs.«01_k».proof.Proof.Reals
public import proofs.«01_k».proof.Proof.Consts
public import Idealize.ShloMosaic.Lib.Pipeline.ValueKit

@[expose] public section

set_option maxRecDepth 16384

noncomputable section

open Idealize.ShloMosaic

namespace Cert.KernelIdeal.Body

open Cert.KernelIdeal Cert.KernelIdeal.Gen Cert.Net

variable (x0 : Vec Ideal S32x128x96 .bf16) (x1 : Vec Ideal S5x96x1024 .bf16) (x2 : Vec Ideal S1x1024 .f32)
  (x3 : Vec Ideal S5x512x768 .bf16) (x4 : Vec Ideal S1x768 .f32) (x5 : Vec Ideal S5x384x512 .bf16) (x6 : Vec Ideal S1x512 .f32)
  (x7 : Vec Ideal S512x128 .bf16) (x8 : Vec Ideal S1x128 .f32) (x9 x10 : Vec Ideal S512x128 .f32) (x11 : Vec Ideal S1x128 .f32)

variable (A : FVec Ideal S128x512 .f32) (B : FVec Ideal S128x384 .bf16) (C : Vec Ideal S1x384x512 .bf16) (D : Vec Ideal S1x512 .f32)
  (e : ℕ → ℕ → EReal) (he : ∀ (r : Fin 128) (j : Fin 512), k0_pay10 A B C D (ix2 r j) = e r j)

include he

theorem score_at (r k : Fin 128) :
    k0_pay12 A B C D (View.ld x7 r0_19) (View.ld x8 r0_20) (ix2 r k) = score (e r) (fun n j => rd2 x7 j n) (rd2 x8 0) k := by
  pointwise [k0_pay12, k0_pay11]
  simp only [he, rd2_ix x7, rd2_ix x8, score]
  rfl

theorem quad_at (r k : Fin 128) :
    k0_pay18 A B C D (View.ld x10 r0_19) (ix2 r k) = ∑ j : Fin 512, e r j * e r j * Ideal.exp (-rd2 x10 j k) := by
  pointwise [k0_pay18, k0_pay15, k0_pay13]
  simp only [he, rd2_ix x10, zero_sub]

theorem cross_at (r k : Fin 128) :
    k0_pay19 A B C D (View.ld x10 r0_19) (View.ld x9 r0_19) (ix2 r k) = ∑ j : Fin 512, e r j * (rd2 x9 j k * Ideal.exp (-rd2 x10 j k)) := by
  pointwise [k0_pay19, k0_pay15, k0_pay13, k0_pay14, k0_pay11]
  simp only [he, rd2_ix x10, rd2_ix x9, zero_sub]

omit he

theorem mean_at (k : Fin 128) :
    k0_pay16 (View.ld x10 r0_19) (View.ld x9 r0_19) (ix2 0 k) = ∑ j : Fin 512, rd2 x9 j k * rd2 x9 j k * Ideal.exp (-rd2 x10 j k) := by
  pointwise [k0_pay16, k0_pay15, k0_pay13, k0_pay14]
  simp only [rd2_ix x10, rd2_ix x9, zero_sub]

theorem logdet_at (k : Fin 128) :
    k0_pay17 (View.ld x10 r0_19) (ix2 0 k) = ∑ j : Fin 512, rd2 x10 j k := by
  pointwise [k0_pay17, k0_pay13]
  simp only [rd2_ix x10]

theorem two_at (i k : Fin 128) : k0_pay20 (F := Ideal) (ix2 i k) = ((2 : ℝ) : EReal) := by
  pointwise [k0_pay20]
  exact Consts.two

/-- The softmax over the hundred lanes in use. -/
theorem soft_at (s : FVec Ideal S128x128 .f32) (f : ℕ → EReal) (r : Fin 128) (hs : ∀ k : Fin 128, s (ix2 r k) = f k) (n : Fin 100) :
    Ideal.div (k0_pay23 s (ix2 r ⟨n, by omega⟩)) (k0_pay24 s (ix2 r 0)) = soft f n := by
  have num : ∀ k : Fin 128, k0_pay23 s (ix2 r k) = if (k : ℕ) < 100 then Ideal.exp (f k - Finset.univ.sup fun k : Fin 100 => f k) else 0 := by
    intro k
    pointwise [k0_pay23, k0_pay21]
    simp only [Consts.lane, Consts.bot, Consts.mask, Consts.fold_max, hs, sup_lanes, exp_lane]
  have den : k0_pay24 s (ix2 r 0) = ∑ k : Fin 100, Ideal.exp (f k - Finset.univ.sup fun k : Fin 100 => f k) := by
    pointwise [k0_pay24]
    simp only [num]
    exact sum_lanes fun k => Ideal.exp (f k - Finset.univ.sup fun k : Fin 100 => f k)
  rw [num, den, if_pos n.2]
  rfl

/-- The evidence over the hundred lanes in use. -/
theorem evid_at (a b : FVec Ideal S1x128 .f32) (c d t : FVec Ideal S128x128 .f32) (r : Fin 128) (f : ℕ → EReal)
    (hf : ∀ k : Fin 128, (k : ℕ) < 100 → ((-(1 / 2) : ℝ) : EReal) * (c (ix2 r k) - t (ix2 r k) * d (ix2 r k) + a (ix2 0 k) + b (ix2 0 k)
      + ((512 * Real.log (13176795 / 2097152) : ℝ) : EReal)) + Ideal.log (rd2 x11 0 k) = f k)
    (ht : ∀ k : Fin 100, f k ≠ ⊤) :
    k0_pay22 a b c d t (View.ld x11 r0_20) (ix2 r 0)
      = evid (Ideal.ofBits .f32 0xC1F00000#32) (Ideal.ofBits .f32 0x41F00000#32) f := by
  have lanes : ∀ k : Fin 128, (if (k : ℕ) < 100 then ((-(1 / 2) : ℝ) : EReal) * (c (ix2 r k) - t (ix2 r k) * d (ix2 r k) + a (ix2 0 k)
      + b (ix2 0 k) + ((512 * Real.log (13176795 / 2097152) : ℝ) : EReal)) + Ideal.log (rd2 x11 0 k) else ⊥)
      = if (k : ℕ) < 100 then f k else ⊥ := by
    intro k
    split
    · exact hf k ‹_›
    · rfl
  pointwise [k0_pay22, k0_pay21]
  have x11_at : ∀ k : Fin 128, x11 (ix2 0 k) = rd2 x11 0 k := fun k => rd2_ix x11 0 k
  simp only [Consts.lane, Consts.bot, Consts.mask, Consts.fold_max, Consts.emb, Consts.neg_half, x11_at, lanes, sup_lanes, exp_lane]
  rw [sum_lanes fun k => Ideal.exp (f k - Finset.univ.sup fun k : Fin 100 => f k), log_sum_exp (fun k : Fin 100 => f k) ht]
  rfl

/-- The class densities of image `r`, from its embedding. -/
abbrev den (e : ℕ → EReal) : ℕ → EReal :=
  dens ((-(1 / 2) : ℝ) : EReal) ((512 * Real.log (13176795 / 2097152) : ℝ) : EReal) e (fun n j => rd2 x9 j n) (fun n j => rd2 x10 j n)
    (rd2 x11 0)

/-- The block the point stores: image `r`, class `n`. -/
theorem out_at (r : Fin 128) (n : Fin 100)
    (re : ∀ j : Fin 512, IsReal (emb x0 x1 x2 x3 x4 x5 x6 r j)) (rmu : ∀ (j : Fin 512) (k : ℕ), k < 100 → IsReal (rd2 x9 j k))
    (rlv : ∀ (j : Fin 512) (k : ℕ), k < 100 → IsReal (rd2 x10 j k)) (rlf : ∀ k < 100, IsReal (rd2 x11 0 k)) :
    out0_12 x0 x1 x2 x3 x4 x5 x6 x7 x8 x9 x10 x11 (ix2 r n)
      = 1 + evid (Ideal.ofBits .f32 0xC1F00000#32) (Ideal.ofBits .f32 0x41F00000#32) (den x9 x10 x11 (emb x0 x1 x2 x3 x4 x5 x6 r))
          * soft (score (emb x0 x1 x2 x3 x4 x5 x6 r) (fun n j => rd2 x7 j n) (rd2 x8 0)) n := by
  have h := emb_at x0 x1 x2 x3 x4 x5 x6 x7 x8 x9 x10 x11
  have hs : ∀ k : Fin 128, k0_pay31 x0 x1 x2 x3 x4 x5 x6 x7 x8 x9 x10 x11 (ix2 r k)
      = score (emb x0 x1 x2 x3 x4 x5 x6 r) (fun n j => rd2 x7 j n) (rd2 x8 0) k := by
    intro k
    unfold k0_pay31
    exact score_at x7 x8 _ _ _ _ _ h r k
  refine (congrFun (View.canon_cons_unit_lit (Val := Elt Ideal) (e := .f32) (off := ![0, 0]) (S := S128x100) inb_S128x100_S128x100_0_0 _ [] (by decide)) (ix2 r n)).trans ?_
  pointwise [k0_pay1]
  rw [evid_at x11 _ _ _ _ _ r (den x9 x10 x11 (emb x0 x1 x2 x3 x4 x5 x6 r)) ?_ ?_, soft_at _ _ r hs n]
  · intro k hk
    rw [quad_at x10 _ _ _ _ _ h, cross_at x9 x10 _ _ _ _ _ h, mean_at, logdet_at, two_at,
      dist_expand (fun j => emb x0 x1 x2 x3 x4 x5 x6 r j) (fun j => rd2 x9 j k) (fun j => Ideal.exp (-rd2 x10 j k)) (fun j => re j)
        (fun j => rmu j k hk) fun j => isReal_exp (rlv j k hk).neg]
    rfl
  · intro k
    have hd : IsReal (dist (emb x0 x1 x2 x3 x4 x5 x6 r) (fun n j => rd2 x9 j n) (fun n j => rd2 x10 j n) k) :=
      isReal_sum _ _ fun j => (((re j).sub (rmu j k k.2)).mul ((re j).sub (rmu j k k.2))).mul (isReal_exp (rlv j k k.2).neg)
    have hl : IsReal (∑ j : Fin 512, rd2 x10 j k) := isReal_sum _ _ fun j => rlv j k k.2
    exact IsReal.add_ne_top (IsReal.mul ⟨_, rfl⟩ ((hd.add hl).add ⟨_, rfl⟩)) (log_ne_top (rlf k k.2))

end Cert.KernelIdeal.Body

end
-- ==== Proof.Sums.lean ====
/- The sums of the network in the order the kernel takes them: a convolution as a product with a banded matrix, a dense
   layer as a sum over rows of the last maps. -/
module

public import proofs.«01_k».proof.Proof.Spec

@[expose] public section

noncomputable section

open Finset

namespace Cert.Net

/-- A sum over a product range by quotient and remainder. -/
theorem sum_mul (N C : ℕ) (f : ℕ → EReal) :
    ∑ k ∈ range (N * C), f k = ∑ i ∈ range N, ∑ c ∈ range C, f (i * C + c) := by
  induction N with
  | zero => simp
  | succ n ih => rw [Nat.succ_mul, sum_range_add, ih, sum_range_succ]

/-- A sum whose terms vanish off a band of five is the sum over the band. -/
theorem sum_band (N x : ℕ) (h : x + 5 ≤ N) (f : ℕ → EReal) (g : ℕ → EReal)
    (hf : ∀ i < N, f i = if x ≤ i ∧ i < x + 5 then g (i - x) else 0) :
    ∑ i ∈ range N, f i = ∑ l ∈ range 5, g l := by
  obtain ⟨r, rfl⟩ := Nat.exists_eq_add_of_le h
  rw [sum_range_add, sum_range_add]
  have h1 : ∑ i ∈ range x, f i = 0 := sum_eq_zero fun i hi => by
    have := mem_range.1 hi
    rw [hf i (by omega), if_neg (by omega)]
  have h3 : ∑ i ∈ range r, f (x + 5 + i) = 0 := sum_eq_zero fun i hi => by
    have := mem_range.1 hi
    rw [hf _ (by omega), if_neg (by omega)]
  have h2 : ∑ i ∈ range 5, f (x + i) = ∑ l ∈ range 5, g l := sum_congr rfl fun i hi => by
    have := mem_range.1 hi
    rw [hf _ (by omega), if_pos (by omega), Nat.add_sub_cancel_left]
  rw [h1, h2, h3, zero_add, add_zero]

/-- A convolution is the product of the image's rows, channels innermost, with a banded matrix. -/
theorem conv_banded (C N M : ℕ) (hM : N * C ≤ M) (X : ℕ → ℕ → ℕ → EReal) (W : ℕ → ℕ → ℕ → ℕ → EReal)
    (XK : ℕ → ℕ → EReal) (WK : ℕ → ℕ → EReal) (o y x : ℕ) (hx : x + 5 ≤ N)
    (hX : ∀ a < 5, ∀ k < N * C, XK (y + a) k = X (k % C) (y + a) (k / C))
    (hW : ∀ a < 5, ∀ k < M, WK a k =
      if k < N * C then (if x ≤ k / C ∧ k / C < x + 5 then W o (k % C) a (k / C - x) else 0) else 0) :
    ∑ a : Fin 5, ∑ k : Fin M, XK (y + a) k * WK a k = conv C X W o y x := by
  have row : ∀ a < 5, ∑ k ∈ range M, XK (y + a) k * WK a k
      = ∑ c ∈ range C, ∑ l ∈ range 5, X c (y + a) (x + l) * W o c a l := by
    intro a ha
    obtain ⟨r, rfl⟩ := Nat.exists_eq_add_of_le hM
    rw [sum_range_add]
    have h0 : ∑ i ∈ range r, XK (y + a) (N * C + i) * WK a (N * C + i) = 0 := sum_eq_zero fun i hi => by
      have := mem_range.1 hi
      rw [hW a ha _ (by omega), if_neg (by omega), mul_zero]
    rw [h0, add_zero, sum_mul, sum_comm]
    refine sum_congr rfl fun c hc => ?_
    have hc := mem_range.1 hc
    refine sum_band N x hx _ _ fun i hi => ?_
    have hlt : i * C + c < N * C :=
      calc i * C + c < i * C + C := by omega
        _ = (i + 1) * C := by rw [Nat.succ_mul]
        _ ≤ N * C := Nat.mul_le_mul_right _ hi
    have hd : (i * C + c) / C = i := by
      rw [Nat.add_comm, Nat.add_mul_div_right _ _ (by omega), Nat.div_eq_of_lt hc, Nat.zero_add]
    have hm : (i * C + c) % C = c := by
      rw [Nat.add_comm, Nat.add_mul_mod_self_right, Nat.mod_eq_of_lt hc]
    rw [hX a ha _ hlt, hW a ha _ (by omega), if_pos hlt, hd, hm]
    by_cases hb : x ≤ i ∧ i < x + 5
    · rw [if_pos hb, if_pos hb, Nat.add_sub_of_le hb.1]
    · rw [if_neg hb, if_neg hb, mul_zero]
  unfold conv
  rw [Fin.sum_univ_eq_sum_range (fun a => ∑ k : Fin M, XK (y + a) k * WK a k) 5,
    Fin.sum_univ_eq_sum_range (fun c => ∑ k : Fin 5, ∑ l : Fin 5, X c (y + k) (x + l) * W o c k l) C]
  have e1 : ∀ a ∈ range 5, ∑ k : Fin M, XK (y + a) k * WK a k
      = ∑ c ∈ range C, ∑ l ∈ range 5, X c (y + a) (x + l) * W o c a l := fun a ha => by
    rw [Fin.sum_univ_eq_sum_range (fun k => XK (y + a) k * WK a k) M, row a (mem_range.1 ha)]
  rw [sum_congr rfl e1, sum_comm]
  refine sum_congr rfl fun c _ => ?_
  rw [Fin.sum_univ_eq_sum_range (fun k => ∑ l : Fin 5, X c (y + k) (x + l) * W o c k l) 5]
  refine sum_congr rfl fun a _ => ?_
  rw [Fin.sum_univ_eq_sum_range (fun l => X c (y + a) (x + l) * W o c a l) 5]

/-- The largest of four in two orders. -/
theorem max_swap (a b c d : EReal) : max (max a c) (max b d) = max (max (max a b) c) d := by
  rw [max_assoc, max_assoc, max_assoc, max_left_comm c b d]

/-- The dense layer's sum, row by row of the last maps. -/
theorem dense_rows (H : ℕ → ℕ → ℕ → EReal) (F : ℕ → EReal) (P G : ℕ → ℕ → EReal)
    (hP : ∀ y < 5, ∀ k < 320, P y k = H (k % 64) y (k / 64))
    (hG : ∀ y < 5, ∀ k < 384, G y k = if k < 320 then F (k % 64 * 25 + y * 5 + k / 64) else 0) :
    ∑ y : Fin 5, ∑ k : Fin 384, P y k * G y k = ∑ i : Fin 1600, H (i / 25) (i % 25 / 5) (i % 5) * F i := by
  rw [Fin.sum_univ_eq_sum_range (fun y => ∑ k : Fin 384, P y k * G y k) 5,
    Fin.sum_univ_eq_sum_range (fun i => H (i / 25) (i % 25 / 5) (i % 5) * F i) 1600]
  have e1 : ∀ y ∈ range 5, ∑ k : Fin 384, P y k * G y k
      = ∑ o ∈ range 64, ∑ x ∈ range 5, H o y x * F (o * 25 + y * 5 + x) := fun y hy => by
    have hy := mem_range.1 hy
    rw [Fin.sum_univ_eq_sum_range (fun k => P y k * G y k) 384, show 384 = 5 * 64 + 64 from rfl, sum_range_add, sum_mul, sum_comm]
    have h0 : ∑ i ∈ range 64, P y (5 * 64 + i) * G y (5 * 64 + i) = 0 := sum_eq_zero fun i hi => by
      have := mem_range.1 hi
      rw [hG y hy _ (by omega), if_neg (by omega), mul_zero]
    rw [h0, add_zero]
    refine sum_congr rfl fun o ho => sum_congr rfl fun x hx => ?_
    have ho := mem_range.1 ho
    have hx := mem_range.1 hx
    rw [hP y hy _ (by omega), hG y hy _ (by omega), if_pos (by omega), show (x * 64 + o) % 64 = o by omega,
      show (x * 64 + o) / 64 = x by omega]
  rw [sum_congr rfl e1, sum_comm, show 1600 = 64 * 25 from rfl, sum_mul]
  refine sum_congr rfl fun o ho => ?_
  rw [show 25 = 5 * 5 from rfl, sum_mul]
  refine sum_congr rfl fun y hy => sum_congr rfl fun x hx => ?_
  have ho := mem_range.1 ho
  have hx := mem_range.1 hx
  have hy := mem_range.1 hy
  rw [show (o * (5 * 5) + (y * 5 + x)) / 25 = o by omega, show (o * (5 * 5) + (y * 5 + x)) % (5 * 5) / 5 = y by omega,
    show (o * (5 * 5) + (y * 5 + x)) % 5 = x by omega, show o * (5 * 5) + (y * 5 + x) = o * (5 * 5) + y * 5 + x by omega]

end Cert.Net

end
-- ==== Proof.Layers.lean ====
/- What one grid point computes is the network: the banded products are convolutions, the products over rows the dense layer. -/
module

public import proofs.«01_k».proof.Proof.Head
public import proofs.«01_k».proof.Proof.Sums

@[expose] public section

noncomputable section

open Idealize.ShloMosaic

namespace Cert.KernelIdeal.Body

open Cert.KernelIdeal Cert.KernelIdeal.Gen Cert.Net

/-- A row's banded product is a convolution at output column `x`. -/
theorem rows_act (C N K : ℕ) (hK : N * C ≤ K) (X W : ℕ → ℕ → ℕ → EReal) (B : ℕ → EReal) (I : ℕ → ℕ → ℕ → EReal)
    (V : ℕ → ℕ → ℕ → ℕ → EReal) (D : ℕ → EReal) (y r q o x : ℕ) (hx : x + 5 ≤ N)
    (hX : ∀ a < 5, ∀ k < N * C, X (y + a) r k = I (k % C) (y + a) (k / C))
    (hW : ∀ a < 5, ∀ k < K, W a k q = if k < N * C then (if x ≤ k / C ∧ k / C < x + 5 then V o (k % C) a (k / C - x) else 0) else 0)
    (hB : B q = D o) : rows K X W B y r q = act C I V D o y x := by
  unfold rows act
  rw [hB, conv_banded C N K hK I V (fun y k => X y r k) (fun a k => W a k q) o y x hx hX hW]

/-- A pooled layer over `n` output columns of `O` channels, laid out in halves of `h` lanes, even columns then odd. -/
theorem pool_layer (C N K O h n R : ℕ) (hK : N * C ≤ K) (hn : 2 * n + 4 ≤ N) (hR : 2 * R + 4 ≤ N) (hO : 0 < O) (hh : n * O < h)
    (X W : ℕ → ℕ → ℕ → EReal) (B : ℕ → EReal) (I : ℕ → ℕ → ℕ → EReal)
    (V : ℕ → ℕ → ℕ → ℕ → EReal) (D : ℕ → EReal) (r : ℕ) (hX : ∀ y < N, ∀ k < N * C, X y r k = I (k % C) y (k / C))
    (hW : ∀ a < 5, ∀ k < K, ∀ q < 2 * h, q % h < n * O → W a k q = if k < N * C then
      (if q % h / O * 2 + q / h ≤ k / C ∧ k / C < q % h / O * 2 + q / h + 5 then V (q % h % O) (k % C) a (k / C - (q % h / O * 2 + q / h))
        else 0) else 0)
    (hB : ∀ q < 2 * h, q % h < n * O → B q = D (q % h % O)) (p q : ℕ) (hp : p < R) (hq : q < n * O) :
    pool h (rows K X W B) p r q = layer C I V D (q % O) p (q / O) := by
  have hqn : q / O < n := Nat.div_lt_of_lt_mul (by rwa [Nat.mul_comm] at hq)
  have hm : q % h = q := Nat.mod_eq_of_lt (by omega)
  have hd : q / h = 0 := Nat.div_eq_of_lt (by omega)
  have hm' : (h + q) % h = q := by rw [Nat.add_mod_left, hm]
  have hd' : (h + q) / h = 1 := by rw [Nat.add_div_left _ (by omega), hd]
  have even : ∀ y, y + 5 ≤ N → rows K X W B y r q = act C I V D (q % O) y (2 * (q / O)) := by
    intro y hy
    refine rows_act C N K hK X W B I V D y r q (q % O) _ (by omega) (fun a ha k hk => hX _ (by omega) k hk) (fun a ha k hk => ?_) ?_
    · have := hW a ha k hk q (by omega) (by omega)
      rw [hm, hd, Nat.add_zero, Nat.mul_comm (q / O) 2] at this
      exact this
    · have := hB q (by omega) (by omega)
      rwa [hm] at this
  have odd : ∀ y, y + 5 ≤ N → rows K X W B y r (h + q) = act C I V D (q % O) y (2 * (q / O) + 1) := by
    intro y hy
    refine rows_act C N K hK X W B I V D y r (h + q) (q % O) _ (by omega) (fun a ha k hk => hX _ (by omega) k hk) (fun a ha k hk => ?_) ?_
    · have := hW a ha k hk (h + q) (by omega) (by omega)
      rw [hm', hd', Nat.mul_comm (q / O) 2] at this
      exact this
    · have := hB (h + q) (by omega) (by omega)
      rwa [hm'] at this
  unfold pool layer
  rw [even _ (by omega), even _ (by omega), odd _ (by omega), odd _ (by omega), max_swap]

variable (x0 : Vec Ideal S32x128x96 .bf16) (x1 : Vec Ideal S5x96x1024 .bf16) (x2 : Vec Ideal S1x1024 .f32)
  (x3 : Vec Ideal S5x512x768 .bf16) (x4 : Vec Ideal S1x768 .f32) (x5 : Vec Ideal S5x384x512 .bf16) (x6 : Vec Ideal S1x512 .f32)

/-- The embedding of image `r` of the block, from what the arrays hold. -/
theorem emb_feat (I : ℕ → ℕ → ℕ → EReal) (W1 : ℕ → ℕ → ℕ → ℕ → EReal) (B1 : ℕ → EReal) (W2 : ℕ → ℕ → ℕ → ℕ → EReal) (B2 : ℕ → EReal)
    (F : ℕ → ℕ → EReal) (BF : ℕ → EReal) (r j : ℕ)
    (h0 : ∀ y < 32, ∀ k < 96, rd3 x0 y r k = I (k % 3) y (k / 3))
    (h1 : ∀ a < 5, ∀ k < 96, ∀ q < 1024, q % 512 < 448 → rd3 x1 a k q =
      if q % 512 / 32 * 2 + q / 512 ≤ k / 3 ∧ k / 3 < q % 512 / 32 * 2 + q / 512 + 5
        then W1 (q % 512 % 32) (k % 3) a (k / 3 - (q % 512 / 32 * 2 + q / 512)) else 0)
    (h2 : ∀ q < 1024, q % 512 < 448 → rd2 x2 0 q = B1 (q % 512 % 32))
    (h3 : ∀ a < 5, ∀ k < 512, ∀ q < 768, q % 384 < 320 → rd3 x3 a k q =
      if k < 448 then if q % 384 / 64 * 2 + q / 384 ≤ k / 32 ∧ k / 32 < q % 384 / 64 * 2 + q / 384 + 5
        then W2 (q % 384 % 64) (k % 32) a (k / 32 - (q % 384 / 64 * 2 + q / 384)) else 0 else 0)
    (h4 : ∀ q < 768, q % 384 < 320 → rd2 x4 0 q = B2 (q % 384 % 64))
    (h5 : ∀ y < 5, ∀ k < 384, rd3 x5 y k j = if k < 320 then F j (k % 64 * 25 + y * 5 + k / 64) else 0)
    (h6 : rd2 x6 0 j = BF j) : emb x0 x1 x2 x3 x4 x5 x6 r j = feat I W1 B1 W2 B2 F BF j := by
  have p1 : ∀ p < 14, ∀ q < 448, pool 512 (rows 96 (rd3 x0) (rd3 x1) (rd2 x2 0)) p r q = layer 3 I W1 B1 (q % 32) p (q / 32) := by
    intro p hp q hq
    refine pool_layer 3 32 96 32 512 14 14 (by omega) (by omega) (by omega) (by omega) (by omega) _ _ _ I W1 B1 r h0
      (fun a ha k hk q hq hl => ?_) h2 p q hp hq
    rw [if_pos (show k < 32 * 3 by omega)]
    exact h1 a ha k hk q hq hl
  have p2 : ∀ p < 5, ∀ q < 320, pool 384 (rows 512 (pool 512 (rows 96 (rd3 x0) (rd3 x1) (rd2 x2 0))) (rd3 x3) (rd2 x4 0)) p r q
      = layer 32 (layer 3 I W1 B1) W2 B2 (q % 64) p (q / 64) := by
    intro p hp q hq
    exact pool_layer 32 14 512 64 384 5 5 (by omega) (by omega) (by omega) (by omega) (by omega) _ _ _ _ W2 B2 r p1 h3 h4 p q hp hq
  unfold emb feat embed
  rw [h6, dense_rows (layer 32 (layer 3 I W1 B1) W2 B2) (F j)
    (fun y k => pool 384 (rows 512 (pool 512 (rows 96 (rd3 x0) (rd3 x1) (rd2 x2 0))) (rd3 x3) (rd2 x4 0)) y r k) (fun y k => rd3 x5 y k j) p2 h5]

end Cert.KernelIdeal.Body

end
-- ==== Proof.HostDense.lean ====
/- What the launch reads of the arrays the host only rearranges or pads, in terms of the arguments. -/
module

public import proofs.«01_k».proof.Proof.Gen.KernelIdeal.Frame
public import proofs.«01_k».proof.Proof.Spec
public import Idealize.ShloMosaic.Lib.StableHlo.ReadAt

@[expose] public section

set_option maxRecDepth 16384

noncomputable section

open Idealize.ShloMosaic Idealize.ShloMosaic.TcCoe

namespace Cert.KernelIdeal.Host

open Cert.KernelIdeal Cert.KernelIdeal.Gen Cert.Net

/-- The padding value: the integer zero as a float. -/
theorem pad_zero : FloatOps.sitofp (F := Ideal) .f32 0#32 = (0 : EReal) := by
  change (((0#32 : BitVec 32).toInt : ℝ) : EReal) = 0
  simp

variable (m : (ℓ : Loc nD τ sig) → Buf (Elt Ideal) ℓ) (c : Dev nD)

/-- The argument arrays. -/
abbrev arg0 : FVec Ideal S1024x3x32x32 .f32 := m ((c.tc : Thread nD τ).loc main_arg0)
abbrev arg1 : FVec Ideal S32x3x5x5 .f32 := m ((c.tc : Thread nD τ).loc main_arg1)
abbrev arg2 : FVec Ideal S32 .f32 := m ((c.tc : Thread nD τ).loc main_arg2)
abbrev arg3 : FVec Ideal S64x32x5x5 .f32 := m ((c.tc : Thread nD τ).loc main_arg3)
abbrev arg4 : FVec Ideal S64 .f32 := m ((c.tc : Thread nD τ).loc main_arg4)
abbrev arg5 : FVec Ideal S512x1600 .f32 := m ((c.tc : Thread nD τ).loc main_arg5)
abbrev arg6 : FVec Ideal S512 .f32 := m ((c.tc : Thread nD τ).loc main_arg6)
abbrev arg7 : FVec Ideal S100x512 .f32 := m ((c.tc : Thread nD τ).loc main_arg7)
abbrev arg8 : FVec Ideal S100 .f32 := m ((c.tc : Thread nD τ).loc main_arg8)
abbrev arg9 : FVec Ideal S100x512 .f32 := m ((c.tc : Thread nD τ).loc main_arg9)
abbrev arg10 : FVec Ideal S100x512 .f32 := m ((c.tc : Thread nD τ).loc main_arg10)
abbrev arg11 : FVec Ideal S100 .f32 := m ((c.tc : Thread nD τ).loc main_arg11)

/-- The arrays the launch reads. -/
abbrev xt : FVec Ideal S32x1024x96 .bf16 := V m c main_v2
abbrev w1 : FVec Ideal S5x96x1024 .bf16 := V m c main_v34
abbrev b1 : FVec Ideal S1x1024 .f32 := V m c main_v42
abbrev w2 : FVec Ideal S5x512x768 .bf16 := V m c main_v75
abbrev b2 : FVec Ideal S1x768 .f32 := V m c main_v83
abbrev wfc : FVec Ideal S5x384x512 .bf16 := V m c main_v88
abbrev bfc : FVec Ideal S1x512 .f32 := V m c main_v89
abbrev clsT : FVec Ideal S512x128 .bf16 := V m c main_v92
abbrev clsb : FVec Ideal S1x128 .f32 := V m c main_v94
abbrev muT : FVec Ideal S512x128 .f32 := V m c main_v96
abbrev lvT : FVec Ideal S512x128 .f32 := V m c main_v98
abbrev lf : FVec Ideal S1x128 .f32 := V m c main_v100

theorem xt_rd (y b k : ℕ) (hy : y < 32) (hb : b < 1024) (hk : k < 96) :
    rd3 (xt m c) y b k = rd4 (arg0 m c) b (k % 3) y (k / 3) := by
  rw [rd3, dif_pos ⟨hy, hb, hk⟩]
  unfold xt V
  after_reads_at
  exact rd4_ix (arg0 m c) ⟨b, hb⟩ ⟨k % 3, by omega⟩ ⟨y, hy⟩ ⟨k / 3, by omega⟩

theorem bfc_rd (j : ℕ) (hj : j < 512) : rd2 (bfc m c) 0 j = rd1 (arg6 m c) j := by
  rw [rd2, dif_pos ⟨by omega, hj⟩]
  unfold bfc V
  after_reads_at
  exact rd1_ix (arg6 m c) ⟨j, hj⟩

theorem b1_rd (q : ℕ) (hq : q < 1024) (hl : q % 512 < 448) : rd2 (b1 m c) 0 q = rd1 (arg2 m c) (q % 512 % 32) := by
  rw [rd2, dif_pos ⟨by omega, hq⟩]
  unfold b1 V
  after_reads_at
  rw [dif_pos hl]
  exact rd1_ix (arg2 m c) ⟨q % 512 % 32, by omega⟩

theorem b2_rd (q : ℕ) (hq : q < 768) (hl : q % 384 < 320) : rd2 (b2 m c) 0 q = rd1 (arg4 m c) (q % 384 % 64) := by
  rw [rd2, dif_pos ⟨by omega, hq⟩]
  unfold b2 V
  after_reads_at
  rw [dif_pos hl]
  exact rd1_ix (arg4 m c) ⟨q % 384 % 64, by omega⟩

theorem wfc_rd (y k j : ℕ) (hy : y < 5) (hk : k < 384) (hj : j < 512) :
    rd3 (wfc m c) y k j = if k < 320 then rd2 (arg5 m c) j (k % 64 * 25 + y * 5 + k / 64) else 0 := by
  rw [rd3, dif_pos ⟨hy, hk, hj⟩]
  unfold wfc V
  after_reads_at
  simp only [hy, hj, true_and, and_true]
  by_cases h : k < 320
  · simp only [h, dite_true, if_true]
    exact rd2_ix (arg5 m c) ⟨j, hj⟩ ⟨k % 64 * 25 + y * 5 + k / 64, by omega⟩
  · simp only [h, dite_false, if_false]
    exact pad_zero

theorem clsT_rd (j n : ℕ) (hj : j < 512) (hn : n < 100) : rd2 (clsT m c) j n = rd2 (arg7 m c) n j := by
  rw [rd2, dif_pos ⟨hj, by omega⟩]
  unfold clsT V
  after_reads_at
  rw [dif_pos ⟨hj, hn⟩]
  exact rd2_ix (arg7 m c) ⟨n, hn⟩ ⟨j, hj⟩

theorem clsb_rd (n : ℕ) (hn : n < 100) : rd2 (clsb m c) 0 n = rd1 (arg8 m c) n := by
  rw [rd2, dif_pos ⟨by omega, by omega⟩]
  unfold clsb V
  after_reads_at
  rw [dif_pos hn]
  exact rd1_ix (arg8 m c) ⟨n, hn⟩

theorem muT_rd (j n : ℕ) (hj : j < 512) (hn : n < 100) : rd2 (muT m c) j n = rd2 (arg9 m c) n j := by
  rw [rd2, dif_pos ⟨hj, by omega⟩]
  unfold muT V
  after_reads_at
  rw [dif_pos ⟨hj, hn⟩]
  exact rd2_ix (arg9 m c) ⟨n, hn⟩ ⟨j, hj⟩

theorem lvT_rd (j n : ℕ) (hj : j < 512) (hn : n < 100) : rd2 (lvT m c) j n = rd2 (arg10 m c) n j := by
  rw [rd2, dif_pos ⟨hj, by omega⟩]
  unfold lvT V
  after_reads_at
  rw [dif_pos ⟨hj, hn⟩]
  exact rd2_ix (arg10 m c) ⟨n, hn⟩ ⟨j, hj⟩

theorem lf_rd (n : ℕ) (hn : n < 100) : rd2 (lf m c) 0 n = rd1 (arg11 m c) n := by
  rw [rd2, dif_pos ⟨by omega, by omega⟩]
  unfold lf V
  after_reads_at
  rw [dif_pos hn]
  exact rd1_ix (arg11 m c) ⟨n, hn⟩

end Cert.KernelIdeal.Host

end
-- ==== Proof.HostBand.lean ====
/- What the launch reads of the two convolutions' weights: each laid out along a band, zero off it. -/
module

public import proofs.«01_k».proof.Proof.HostDense
public import Idealize.ShloMosaic.Lib.Tactic.WordOmega

@[expose] public section

set_option maxRecDepth 16384

noncomputable section

open Idealize.ShloMosaic Idealize.ShloMosaic.TcCoe

namespace Cert.KernelIdeal.Host

open Cert.KernelIdeal Cert.KernelIdeal.Gen Cert.Net

/-- The first convolution's weights, taken at the column offsets `idx`. -/
theorem take1_apply {α : Type} (x : S5x5x3x32.Idx → α) (idx : IVec S32x28x1 32) (a : Fin 5) (p : Fin 32) (q : Fin 28) (i : Fin 3)
    (o : Fin 32) :
    Host.gather gather_S5x5x3x32_S32x28x1_S5x32x28x3x32_034_1_n_n_1_2_51332 x idx (ix5 a p q i o)
      = x (ix4 a ⟨min (idx (ix3 p q 0)).toInt.toNat 4, by omega⟩ i o) := by
  unfold Host.gather
  congr 1
  funext b
  refine Fin.ext ?_
  match b with
  | ⟨0, _⟩ => exact (by omega : 0 + 0 + (a : ℕ) = a)
  | ⟨1, _⟩ =>
    refine Eq.trans (Nat.add_zero _) (Eq.trans (Nat.add_zero _) ?_)
    refine congrArg (fun i => min (idx i).toInt.toNat 4) (?_ : _ = ix3 p q 0)
    funext e
    match e with
    | ⟨0, _⟩ => rfl
    | ⟨1, _⟩ => rfl
    | ⟨2, _⟩ => rfl
  | ⟨2, _⟩ => exact (by omega : 0 + 0 + (i : ℕ) = i)
  | ⟨3, _⟩ => exact (by omega : 0 + 0 + (o : ℕ) = o)

/-- The second convolution's weights, taken at the column offsets `idx`. -/
theorem take2_apply {α : Type} (x : S5x5x32x64.Idx → α) (idx : IVec S14x10x1 32) (a : Fin 5) (p : Fin 14) (q : Fin 10) (i : Fin 32)
    (o : Fin 64) :
    Host.gather gather_S5x5x32x64_S14x10x1_S5x14x10x32x64_034_1_n_n_1_2_513264 x idx (ix5 a p q i o)
      = x (ix4 a ⟨min (idx (ix3 p q 0)).toInt.toNat 4, by omega⟩ i o) := by
  unfold Host.gather
  congr 1
  funext b
  refine Fin.ext ?_
  match b with
  | ⟨0, _⟩ => exact (by omega : 0 + 0 + (a : ℕ) = a)
  | ⟨1, _⟩ =>
    refine Eq.trans (Nat.add_zero _) (Eq.trans (Nat.add_zero _) ?_)
    refine congrArg (fun i => min (idx i).toInt.toNat 4) (?_ : _ = ix3 p q 0)
    funext e
    match e with
    | ⟨0, _⟩ => rfl
    | ⟨1, _⟩ => rfl
    | ⟨2, _⟩ => rfl
  | ⟨2, _⟩ => exact (by omega : 0 + 0 + (i : ℕ) = i)
  | ⟨3, _⟩ => exact (by omega : 0 + 0 + (o : ℕ) = o)

/-- The offset `p - x` held between zero and four, as the host computes it. -/
abbrev held (p x : ℕ) : BitVec 32 :=
  IntOp.minsi 4#32 (IntOp.maxsi 0#32 (IntOp.subi (BitVec.ofNat 32 p) (BitVec.ofNat 32 x)))

/-- On the band the held offset is the offset. -/
theorem held_word : ∀ p x : Fin 32, x.val ≤ p.val → p.val < x.val + 5 →
    min (Scalar.select (IntOp.cmpi .slt (held p x) 0#32) (IntOp.addi (held p x) 5#32) (held p x)).toInt.toNat 4 = p.val - x.val := by
  decide +kernel

/-- The band as the host tests it. -/
theorem band_word : ∀ p x : Fin 32,
    IntOp.andi (IntOp.cmpi .sge (IntOp.subi (BitVec.ofNat 32 p) (BitVec.ofNat 32 x)) 0#32)
      (IntOp.cmpi .slt (IntOp.subi (BitVec.ofNat 32 p) (BitVec.ofNat 32 x)) 5#32)
      = if x.val ≤ p.val ∧ p.val < x.val + 5 then 1#1 else 0#1 := by
  decide +kernel

theorem uitofp_one : FloatOps.uitofp (F := Ideal) .f32 1#1 = (1 : EReal) := by
  change (((1#1 : BitVec 1).toNat : ℝ) : EReal) = 1
  simp

theorem uitofp_zero : FloatOps.uitofp (F := Ideal) .f32 0#1 = (0 : EReal) := by
  change (((0#1 : BitVec 1).toNat : ℝ) : EReal) = 0
  simp

/-- A weight taken at the held offset, times the band's indicator. -/
theorem tap (G : Fin 5 → EReal) (g : ℕ → EReal) (hG : ∀ l : Fin 5, G l = g l) (p x : ℕ) (hp : p < 32) (hx : x < 32) (pf) :
    G ⟨min (Scalar.select (IntOp.cmpi .slt (held p x) 0#32) (IntOp.addi (held p x) 5#32) (held p x)).toInt.toNat 4, pf⟩
        * FloatOps.uitofp (F := Ideal) .f32 (IntOp.andi (IntOp.cmpi .sge (IntOp.subi (BitVec.ofNat 32 p) (BitVec.ofNat 32 x)) 0#32)
          (IntOp.cmpi .slt (IntOp.subi (BitVec.ofNat 32 p) (BitVec.ofNat 32 x)) 5#32))
      = if x ≤ p ∧ p < x + 5 then g (p - x) else 0 := by
  rw [show IntOp.andi (IntOp.cmpi .sge (IntOp.subi (BitVec.ofNat 32 p) (BitVec.ofNat 32 x)) 0#32)
          (IntOp.cmpi .slt (IntOp.subi (BitVec.ofNat 32 p) (BitVec.ofNat 32 x)) 5#32)
        = if x ≤ p ∧ p < x + 5 then 1#1 else 0#1 from band_word ⟨p, hp⟩ ⟨x, hx⟩]
  by_cases h : x ≤ p ∧ p < x + 5
  · rw [if_pos h, if_pos h, uitofp_one, mul_one, hG]
    exact congrArg g (held_word ⟨p, hp⟩ ⟨x, hx⟩ h.1 h.2)
  · rw [if_neg h, if_neg h, uitofp_zero, mul_zero]

variable (m : (ℓ : Loc nD τ sig) → Buf (Elt Ideal) ℓ) (c : Dev nD)

theorem w1_rd (a k q : ℕ) (ha : a < 5) (hk : k < 96) (hq : q < 1024) (hl : q % 512 < 448) :
    rd3 (w1 m c) a k q = if q % 512 / 32 * 2 + q / 512 ≤ k / 3 ∧ k / 3 < q % 512 / 32 * 2 + q / 512 + 5
      then rd4 (arg1 m c) (q % 512 % 32) (k % 3) a (k / 3 - (q % 512 / 32 * 2 + q / 512)) else 0 := by
  rw [rd3, dif_pos ⟨ha, hk, hq⟩]
  unfold w1 V
  after_reads_at
  simp only [show q / 512 < 2 by omega, hl, true_and, dite_true]
  simp only [take1_apply]
  pointwise
  exact tap (fun l => arg1 m c (ix4 ⟨q % 512 % 32, by omega⟩ ⟨k % 3, by omega⟩ ⟨a, ha⟩ l))
    (rd4 (arg1 m c) (q % 512 % 32) (k % 3) a) (fun l => rd4_ix (arg1 m c) ⟨q % 512 % 32, by omega⟩ ⟨k % 3, by omega⟩ ⟨a, ha⟩ l)
    (k / 3) (q % 512 / 32 * 2 + q / 512) (by omega) (by omega) _

theorem w2_rd (a k q : ℕ) (ha : a < 5) (hk : k < 512) (hq : q < 768) (hl : q % 384 < 320) :
    rd3 (w2 m c) a k q = if k < 448 then if q % 384 / 64 * 2 + q / 384 ≤ k / 32 ∧ k / 32 < q % 384 / 64 * 2 + q / 384 + 5
      then rd4 (arg3 m c) (q % 384 % 64) (k % 32) a (k / 32 - (q % 384 / 64 * 2 + q / 384)) else 0 else 0 := by
  rw [rd3, dif_pos ⟨ha, hk, hq⟩]
  unfold w2 V
  after_reads_at
  simp only [ha, hq, hl, show q / 384 < 2 by omega, true_and, and_true, dite_true]
  by_cases h : k < 448
  · simp only [h, dite_true, if_true]
    simp only [take2_apply]
    pointwise
    exact tap (fun l => arg3 m c (ix4 ⟨q % 384 % 64, by omega⟩ ⟨k % 32, by omega⟩ ⟨a, ha⟩ l))
      (rd4 (arg3 m c) (q % 384 % 64) (k % 32) a) (fun l => rd4_ix (arg3 m c) ⟨q % 384 % 64, by omega⟩ ⟨k % 32, by omega⟩ ⟨a, ha⟩ l)
      (k / 32) (q % 384 / 64 * 2 + q / 384) (by omega) (by omega) _
  · simp only [h, dite_false, if_false]
    exact pad_zero

end Cert.KernelIdeal.Host

end
-- ==== Proof.Result.lean ====
/- The kernel's result array: every grid point stores the network's results of its 128 images. -/
module

public import proofs.«01_k».proof.Proof.Layers
public import proofs.«01_k».proof.Proof.HostBand
public import Idealize.ShloMosaic.Lib.Pipeline.ValueKit

@[expose] public section

set_option maxRecDepth 16384

noncomputable section

open Idealize.ShloMosaic Idealize.ShloMosaic.TcCoe

namespace Cert.KernelIdeal.Result

open Cert.KernelIdeal Cert.KernelIdeal.Gen Cert.KernelIdeal.Body Cert.KernelIdeal.Host Cert.Net

variable (m : (ℓ : Loc nD τ sig) → Buf (Elt Ideal) ℓ) (c : Dev nD)

/-- The arguments the densities are formed from hold real numbers only. -/
structure RealArgs : Prop where
  x : ∀ i, IsReal (arg0 m c i)
  w1 : ∀ i, IsReal (arg1 m c i)
  b1 : ∀ i, IsReal (arg2 m c i)
  w2 : ∀ i, IsReal (arg3 m c i)
  b2 : ∀ i, IsReal (arg4 m c i)
  wf : ∀ i, IsReal (arg5 m c i)
  bf : ∀ i, IsReal (arg6 m c i)
  mu : ∀ i, IsReal (arg9 m c i)
  lv : ∀ i, IsReal (arg10 m c i)
  lf : ∀ i, IsReal (arg11 m c i)

/-- The network's result at image `b` and class `n`. -/
abbrev value (b n : ℕ) : EReal :=
  net (rd4 (arg0 m c)) (rd4 (arg1 m c)) (rd1 (arg2 m c)) (rd4 (arg3 m c)) (rd1 (arg4 m c)) (rd2 (arg5 m c)) (rd1 (arg6 m c))
    (rd2 (arg7 m c)) (rd1 (arg8 m c)) (rd2 (arg9 m c)) (rd2 (arg10 m c)) (rd1 (arg11 m c)) b n

/-- The embedding of image `b`. -/
abbrev feature (b : ℕ) : ℕ → EReal :=
  feat (rd4 (arg0 m c) b) (rd4 (arg1 m c)) (rd1 (arg2 m c)) (rd4 (arg3 m c)) (rd1 (arg4 m c)) (rd2 (arg5 m c)) (rd1 (arg6 m c))

/-- What a point stores, from blocks that hold its images and the whole of the other arrays. -/
theorem stored (hr : RealArgs m c) (x0 : Vec Ideal S32x128x96 .bf16) (b : ℕ) (r : Fin 128) (hb : b < 1024) (n : Fin 100)
    (h0 : ∀ y < 32, ∀ k < 96, rd3 x0 y r k = rd3 (xt m c) y b k) :
    out0_12 x0 (w1 m c) (b1 m c) (w2 m c) (b2 m c) (wfc m c) (bfc m c) (clsT m c) (clsb m c) (muT m c) (lvT m c) (lf m c) (ix2 r n)
      = value m c b n := by
  have he : ∀ j < 512, emb x0 (w1 m c) (b1 m c) (w2 m c) (b2 m c) (wfc m c) (bfc m c) r j = feature m c b j := by
    intro j hj
    refine emb_feat x0 _ _ _ _ _ _ _ _ _ _ _ _ _ r j (fun y hy k hk => ?_) (fun a ha k hk q hq hl => w1_rd m c a k q ha hk hq hl)
      (fun q hq hl => b1_rd m c q hq hl) (fun a ha k hk q hq hl => w2_rd m c a k q ha hk hq hl) (fun q hq hl => b2_rd m c q hq hl)
      (fun y hy k hk => wfc_rd m c y k j hy hk hj) (bfc_rd m c j hj)
    rw [h0 y hy k hk, xt_rd m c y b k hy hb hk]
  rw [out_at x0 (w1 m c) (b1 m c) (w2 m c) (b2 m c) (wfc m c) (bfc m c) (clsT m c) (clsb m c) (muT m c) (lvT m c) (lf m c) r n
    (fun j => by
      rw [he j j.2]
      exact isReal_feat (fun _ _ _ => isReal_rd4 hr.x _ _ _ _) (fun _ _ _ _ => isReal_rd4 hr.w1 _ _ _ _) (fun _ => isReal_rd1 hr.b1 _)
        (fun _ _ _ _ => isReal_rd4 hr.w2 _ _ _ _) (fun _ => isReal_rd1 hr.b2 _) (fun _ _ => isReal_rd2 hr.wf _ _)
        (fun _ => isReal_rd1 hr.bf _) _)
    (fun j k hk => by rw [muT_rd m c j k j.2 hk]; exact isReal_rd2 hr.mu _ _)
    (fun j k hk => by rw [lvT_rd m c j k j.2 hk]; exact isReal_rd2 hr.lv _ _)
    (fun k hk => by rw [lf_rd m c k hk]; exact isReal_rd1 hr.lf _)]
  exact alpha_congr _ _ _ _ he (fun n hn j hj => clsT_rd m c j n hj hn) (fun n hn => clsb_rd m c n hn)
    (fun n hn j hj => muT_rd m c j n hj hn) (fun n hn j hj => lvT_rd m c j n hj hn) (fun n hn => lf_rd m c n hn) n.2

/-- Every window's block index at a point. -/
theorem idx : ∀ t : Fin cfg0.N, win0_0.index t = ![0, t.val, 0] ∧ win0_1.index t = ![0, 0, 0] ∧ win0_2.index t = ![0, 0]
    ∧ win0_3.index t = ![0, 0, 0] ∧ win0_4.index t = ![0, 0] ∧ win0_5.index t = ![0, 0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![t.val, 0] :=
  (by decide +kernel : ∀ t : Fin grid0.N, _)

/-- The images of point `t`'s block. -/
theorem block0 (t : Fin cfg0.N) (y : Fin 32) (r : Fin 128) (k : Fin 96) (h : t.val * 128 + r.val < 1024) :
    iblk m c 0 t (ix3 y r k) = xt m c (ix3 y ⟨t.val * 128 + r.val, h⟩ k) := by
  blk_ext [iblk, idx t]

/-! The other blocks are the whole of their arrays. -/

theorem block1 (t : Fin cfg0.N) : iblk m c 1 t = w1 m c := by blk_ext! [iblk, idx t]
theorem block2 (t : Fin cfg0.N) : iblk m c 2 t = b1 m c := by blk_ext! [iblk, idx t]
theorem block3 (t : Fin cfg0.N) : iblk m c 3 t = w2 m c := by blk_ext! [iblk, idx t]
theorem block4 (t : Fin cfg0.N) : iblk m c 4 t = b2 m c := by blk_ext! [iblk, idx t]
theorem block5 (t : Fin cfg0.N) : iblk m c 5 t = wfc m c := by blk_ext! [iblk, idx t]
theorem block6 (t : Fin cfg0.N) : iblk m c 6 t = bfc m c := by blk_ext! [iblk, idx t]
theorem block7 (t : Fin cfg0.N) : iblk m c 7 t = clsT m c := by blk_ext! [iblk, idx t]
theorem block8 (t : Fin cfg0.N) : iblk m c 8 t = clsb m c := by blk_ext! [iblk, idx t]
theorem block9 (t : Fin cfg0.N) : iblk m c 9 t = muT m c := by blk_ext! [iblk, idx t]
theorem block10 (t : Fin cfg0.N) : iblk m c 10 t = lvT m c := by blk_ext! [iblk, idx t]
theorem block11 (t : Fin cfg0.N) : iblk m c 11 t = lf m c := by blk_ext! [iblk, idx t]

/-- The result array: the network's results. -/
abbrev G : Buf (Elt Ideal) ((c.tc : Thread nD τ).loc main_v101) := fun i => value m c (i 0 : Fin 1024) (i 1 : Fin 100)

theorem array (hr : RealArgs m c) : (dats m 0 c).arrAt 12 cfg0.N = G m c := by
  refine (dats m 0 c).arrAt_eq_of_covers 12 _ (by decide +kernel) fun t hf y => ?_
  blk_simp
  rw [after0_12, block1, block2, block3, block4, block5, block6, block7, block8, block9, block10, block11]
  have ht : t.val < 8 := t.isLt
  have h0 : (y 0).val < 128 := (y 0).isLt
  have hb : t.val * 128 + (y 0).val < 1024 := by omega
  have e := stored m c hr (iblk m c 0 t) (t.val * 128 + (y 0).val) (y 0) hb (y 1) fun a ha k hk => by
    simp only [rd3, ha, hk, hb, h0, dite_true]
    exact block0 m c t ⟨a, ha⟩ (y 0) ⟨k, hk⟩ hb
  refine ((congrArg _ (?_ : y = ix2 (y 0) (y 1))).trans e).trans ?_
  · funext a
    fin_cases a <;> rfl
  · have e0 : ((win0_12.blk t).view.emb y 0).val = t.val * 128 + (y 0).val := by
      blk_simp [idx t]
    have e1 : ((win0_12.blk t).view.emb y 1) = y 1 := by
      apply Fin.ext
      blk_simp [idx t]
    show value m c _ _ = value m c _ _
    rw [e1, e0]

end Cert.KernelIdeal.Result

end
-- ==== Proof.Finite.lean ====
/- The precondition read: every array it names holds real numbers only. -/
module

public import proofs.«01_k».proof.Proof.Result
public import proofs.«01_k».proof.Proof.Gen.Pre_finite
public import proofs.«01_k».proof.Defs
public import Idealize.ShloMosaic.Lib.ReduceAll

@[expose] public section

set_option maxRecDepth 16384

noncomputable section

open Idealize.ShloMosaic Idealize.ShloMosaic.TcCoe

namespace Cert.Finite

open Cert.Net Cert.KernelIdeal.Host Cert.KernelIdeal.Result

theorem real_of_lt (x : EReal) (h : Ideal.cmp .olt (max x (-x)) ⊤ = 1#1) : IsReal x := by
  have h' : max x (-x) < ⊤ := by
    by_contra hn
    simp [Ideal.cmp, hn] at h
  induction x with
  | bot => simp at h'
  | top => simp at h'
  | coe r => exact ⟨r, rfl⟩

/-- "All entries below infinity in absolute value" says the array is real. -/
theorem all_real {s : Shape} {axes : List (Fin s.rank)} (a : FVec Ideal s .f32)
    (hb : Pre_finite.S_.BroadcastsInDim s (![] : Fin 0 → Fin s.rank)) (h : s.ReducesTo axes Pre_finite.S_) (hu : 0 < Pre_finite.S_.numel)
    (e : Host.reduce IntOp.andi (cmpf .olt (Host.absf a) (broadcastInDim s ![] hb (constant (F := Ideal) Pre_finite.S_ .f32 0x7F800000#32)))
      (constantI Pre_finite.S_ 1 1#1) h hu ix0 = 1#1) (i : s.Idx) : IsReal (a i) := by
  haveI : Subsingleton Pre_finite.S_.Idx := ⟨fun x y => funext fun k => k.elim0⟩
  have hi := Host.reduce_andi_all _ _ h hu ix0 e i
  refine real_of_lt (a i) ?_
  rw [← Consts.top]
  exact hi

variable (m : (ℓ : Loc KernelIdeal.nD KernelIdeal.τ KernelIdeal.sig) → Buf (Elt Ideal) ℓ)

theorem real_args (h : Cert.Pre_KernelIdeal_finite m) (c : Dev KernelIdeal.nD) : RealArgs m c := by
  have e : andi _ _ ix0 = 1#1 := congrFun (h c) ix0
  obtain ⟨e, h11⟩ := IntOp.andi_eq_one.1 e
  obtain ⟨e, h10⟩ := IntOp.andi_eq_one.1 e
  obtain ⟨e, h9⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨all_real _ _ _ _ h0, all_real _ _ _ _ h1, all_real _ _ _ _ h2, all_real _ _ _ _ h3, all_real _ _ _ _ h4, all_real _ _ _ _ h5,
    all_real _ _ _ _ h6, all_real _ _ _ _ h9, all_real _ _ _ _ h10, all_real _ _ _ _ h11⟩

end Cert.Finite

end
-- ==== Proof.RefOps.lean ====
/- The reference's operations that read more than one element in a way of their own, each at an index: the two window
   gathers of a convolution, its contraction over channel, row and column, and the pooling by windows of two by two. -/
module

public import proofs.«01_k».proof.Proof.Gen.ReferenceIdeal
public import Idealize.ShloMosaic.Lib.Pointwise

@[expose] public section

set_option maxRecDepth 16384

noncomputable section

open Idealize.ShloMosaic

namespace Cert.ReferenceIdeal.Ops

open Cert.ReferenceIdeal Cert.ReferenceIdeal.Gen

variable {α : Type}

/-- The rows of the windows of the first convolution. -/
theorem rows1_apply (x : S1024x3x32x32.Idx → α) (idx : IVec S28x5x1 32) (b : Fin 1024) (c : Fin 3) (y : Fin 28) (k : Fin 5) (w : Fin 32) :
    Host.gather gather_S1024x3x32x32_S28x5x1_S1024x3x28x5x32_014_2_n_n_2_2_10243132 x idx (ix5 b c y k w)
      = x (ix4 b c ⟨min (idx (ix3 y k 0)).toInt.toNat 31, by omega⟩ w) := by
  unfold Host.gather
  congr 1
  funext a
  refine Fin.ext ?_
  match a with
  | ⟨0, _⟩ => exact (by omega : 0 + 0 + (b : ℕ) = b)
  | ⟨1, _⟩ => exact (by omega : 0 + 0 + (c : ℕ) = c)
  | ⟨2, _⟩ =>
    refine Eq.trans (Nat.add_zero _) (Eq.trans (Nat.add_zero _) ?_)
    refine congrArg (fun i => min (idx i).toInt.toNat 31) (?_ : _ = ix3 y k 0)
    funext e
    match e with
    | ⟨0, _⟩ => rfl
    | ⟨1, _⟩ => rfl
    | ⟨2, _⟩ => rfl
  | ⟨3, _⟩ => exact (by omega : 0 + 0 + (w : ℕ) = w)

/-- The columns of the windows of the first convolution. -/
theorem cols1_apply (x : S1024x3x28x5x32.Idx → α) (idx : IVec S28x5x1 32) (b : Fin 1024) (c : Fin 3) (y : Fin 28) (k : Fin 5) (x0 : Fin 28) (l : Fin 5) :
    Host.gather gather_S1024x3x28x5x32_S28x5x1_S1024x3x28x5x28x5_0123_4_n_n_4_2_102432851 x idx (ix6 b c y k x0 l)
      = x (ix5 b c y k ⟨min (idx (ix3 x0 l 0)).toInt.toNat 31, by omega⟩) := by
  unfold Host.gather
  congr 1
  funext a
  refine Fin.ext ?_
  match a with
  | ⟨0, _⟩ => exact (by omega : 0 + 0 + (b : ℕ) = b)
  | ⟨1, _⟩ => exact (by omega : 0 + 0 + (c : ℕ) = c)
  | ⟨2, _⟩ => exact (by omega : 0 + 0 + (y : ℕ) = y)
  | ⟨3, _⟩ => exact (by omega : 0 + 0 + (k : ℕ) = k)
  | ⟨4, _⟩ =>
    refine Eq.trans (Nat.add_zero _) (Eq.trans (Nat.add_zero _) ?_)
    refine congrArg (fun i => min (idx i).toInt.toNat 31) (?_ : _ = ix3 x0 l 0)
    funext e
    match e with
    | ⟨0, _⟩ => rfl
    | ⟨1, _⟩ => rfl
    | ⟨2, _⟩ => rfl

/-- The rows of the windows of the second convolution. -/
theorem rows2_apply (x : S1024x32x14x14.Idx → α) (idx : IVec S10x5x1 32) (b : Fin 1024) (c : Fin 32) (y : Fin 10) (k : Fin 5) (w : Fin 14) :
    Host.gather gather_S1024x32x14x14_S10x5x1_S1024x32x10x5x14_014_2_n_n_2_2_102432114 x idx (ix5 b c y k w)
      = x (ix4 b c ⟨min (idx (ix3 y k 0)).toInt.toNat 13, by omega⟩ w) := by
  unfold Host.gather
  congr 1
  funext a
  refine Fin.ext ?_
  match a with
  | ⟨0, _⟩ => exact (by omega : 0 + 0 + (b : ℕ) = b)
  | ⟨1, _⟩ => exact (by omega : 0 + 0 + (c : ℕ) = c)
  | ⟨2, _⟩ =>
    refine Eq.trans (Nat.add_zero _) (Eq.trans (Nat.add_zero _) ?_)
    refine congrArg (fun i => min (idx i).toInt.toNat 13) (?_ : _ = ix3 y k 0)
    funext e
    match e with
    | ⟨0, _⟩ => rfl
    | ⟨1, _⟩ => rfl
    | ⟨2, _⟩ => rfl
  | ⟨3, _⟩ => exact (by omega : 0 + 0 + (w : ℕ) = w)

/-- The columns of the windows of the second convolution. -/
theorem cols2_apply (x : S1024x32x10x5x14.Idx → α) (idx : IVec S10x5x1 32) (b : Fin 1024) (c : Fin 32) (y : Fin 10) (k : Fin 5) (x0 : Fin 10) (l : Fin 5) :
    Host.gather gather_S1024x32x10x5x14_S10x5x1_S1024x32x10x5x10x5_0123_4_n_n_4_2_1024321051 x idx (ix6 b c y k x0 l)
      = x (ix5 b c y k ⟨min (idx (ix3 x0 l 0)).toInt.toNat 13, by omega⟩) := by
  unfold Host.gather
  congr 1
  funext a
  refine Fin.ext ?_
  match a with
  | ⟨0, _⟩ => exact (by omega : 0 + 0 + (b : ℕ) = b)
  | ⟨1, _⟩ => exact (by omega : 0 + 0 + (c : ℕ) = c)
  | ⟨2, _⟩ => exact (by omega : 0 + 0 + (y : ℕ) = y)
  | ⟨3, _⟩ => exact (by omega : 0 + 0 + (k : ℕ) = k)
  | ⟨4, _⟩ =>
    refine Eq.trans (Nat.add_zero _) (Eq.trans (Nat.add_zero _) ?_)
    refine congrArg (fun i => min (idx i).toInt.toNat 13) (?_ : _ = ix3 x0 l 0)
    funext e
    match e with
    | ⟨0, _⟩ => rfl
    | ⟨1, _⟩ => rfl
    | ⟨2, _⟩ => rfl

/-- The contraction index of convolution 1, from channel, row and column. -/
def contr1 : Fin 3 × Fin 5 × Fin 5 ≃ dot_S32x3x5x5_S1024x3x28x5x28x5_S32x1024x28x28_123_135_0_024_n_n.contr.Idx where
  toFun k := fun (p : Fin 3) => match p with
    | ⟨0, _⟩ => (k.1 : Fin 3)
    | ⟨1, _⟩ => (k.2.1 : Fin 5)
    | ⟨2, _⟩ => (k.2.2 : Fin 5)
  invFun i := ((i (0 : Fin 3) : Fin 3), (i (1 : Fin 3) : Fin 5), (i (2 : Fin 3) : Fin 5))
  left_inv _ := rfl
  right_inv i := by
    funext (p : Fin 3)
    match p with
    | ⟨0, _⟩ => rfl
    | ⟨1, _⟩ => rfl
    | ⟨2, _⟩ => rfl

/-- Convolution 1 as a sum over channel, row and column. -/
theorem dot1_apply (w : S32x3x5x5.Idx → EReal) (p : S1024x3x28x5x28x5.Idx → EReal)
    (o : Fin 32) (b : Fin 1024) (y x : Fin 28) :
    Host.dotGeneral (F := Ideal) (φ₁ := .f32) (φ₂ := .f32) dot_S32x3x5x5_S1024x3x28x5x28x5_S32x1024x28x28_123_135_0_024_n_n none w p (ix4 o b y x)
      = ∑ c : Fin 3, ∑ k : Fin 5, ∑ l : Fin 5, w (ix4 o c k l) * p (ix6 b c y k x l) := by
  refine Eq.trans (Ideal.dotGeneral_apply _ _ _ w p _) ?_
  rw [← Equiv.sum_comp contr1, Fintype.sum_prod_type]
  refine Finset.sum_congr rfl fun c _ => ?_
  rw [Fintype.sum_prod_type]
  refine Finset.sum_congr rfl fun k _ => Finset.sum_congr rfl fun l _ => ?_
  refine congrArg₂ (· * ·) (congrArg w ?_) (congrArg p ?_)
  · funext e
    match e with
    | ⟨0, _⟩ => rfl
    | ⟨1, _⟩ => rfl
    | ⟨2, _⟩ => rfl
    | ⟨3, _⟩ => rfl
  · funext e
    match e with
    | ⟨0, _⟩ => rfl
    | ⟨1, _⟩ => rfl
    | ⟨2, _⟩ => rfl
    | ⟨3, _⟩ => rfl
    | ⟨4, _⟩ => rfl
    | ⟨5, _⟩ => rfl

/-- The contraction index of convolution 2, from channel, row and column. -/
def contr2 : Fin 32 × Fin 5 × Fin 5 ≃ dot_S64x32x5x5_S1024x32x10x5x10x5_S64x1024x10x10_123_135_0_024_n_n.contr.Idx where
  toFun k := fun (p : Fin 3) => match p with
    | ⟨0, _⟩ => (k.1 : Fin 32)
    | ⟨1, _⟩ => (k.2.1 : Fin 5)
    | ⟨2, _⟩ => (k.2.2 : Fin 5)
  invFun i := ((i (0 : Fin 3) : Fin 32), (i (1 : Fin 3) : Fin 5), (i (2 : Fin 3) : Fin 5))
  left_inv _ := rfl
  right_inv i := by
    funext (p : Fin 3)
    match p with
    | ⟨0, _⟩ => rfl
    | ⟨1, _⟩ => rfl
    | ⟨2, _⟩ => rfl

/-- Convolution 2 as a sum over channel, row and column. -/
theorem dot2_apply (w : S64x32x5x5.Idx → EReal) (p : S1024x32x10x5x10x5.Idx → EReal)
    (o : Fin 64) (b : Fin 1024) (y x : Fin 10) :
    Host.dotGeneral (F := Ideal) (φ₁ := .f32) (φ₂ := .f32) dot_S64x32x5x5_S1024x32x10x5x10x5_S64x1024x10x10_123_135_0_024_n_n none w p (ix4 o b y x)
      = ∑ c : Fin 32, ∑ k : Fin 5, ∑ l : Fin 5, w (ix4 o c k l) * p (ix6 b c y k x l) := by
  refine Eq.trans (Ideal.dotGeneral_apply _ _ _ w p _) ?_
  rw [← Equiv.sum_comp contr2, Fintype.sum_prod_type]
  refine Finset.sum_congr rfl fun c _ => ?_
  rw [Fintype.sum_prod_type]
  refine Finset.sum_congr rfl fun k _ => Finset.sum_congr rfl fun l _ => ?_
  refine congrArg₂ (· * ·) (congrArg w ?_) (congrArg p ?_)
  · funext e
    match e with
    | ⟨0, _⟩ => rfl
    | ⟨1, _⟩ => rfl
    | ⟨2, _⟩ => rfl
    | ⟨3, _⟩ => rfl
  · funext e
    match e with
    | ⟨0, _⟩ => rfl
    | ⟨1, _⟩ => rfl
    | ⟨2, _⟩ => rfl
    | ⟨3, _⟩ => rfl
    | ⟨4, _⟩ => rfl
    | ⟨5, _⟩ => rfl

/-- Pooling 1: the largest of the four elements of a window, and of the initial value. -/
theorem pool1_apply (x : S1024x32x28x28.Idx → EReal) (init : S_.Idx → EReal) (hu : 0 < S_.numel)
    (b : Fin 1024) (c : Fin 32) (y z : Fin 14) :
    Host.reduceWindow (FloatOps.maximumf (F := Ideal) (φ := .f32)) ![1, 1, 2, 2] ![1, 1, 2, 2] ![0, 0, 0, 0] ![0, 0, 0, 0] x init
        reduceWindows_S1024x32x28x28_S1024x32x14x14_w1s1p0_0_w1s1p0_0_w2s2p0_0_w2s2p0_0 hu (ix4 b c y z)
      = max (max (max (max (init (Shape.Idx.first hu)) (x (ix4 b c ⟨2 * y, by omega⟩ ⟨2 * z, by omega⟩)))
          (x (ix4 b c ⟨2 * y, by omega⟩ ⟨2 * z + 1, by omega⟩)))
          (x (ix4 b c ⟨2 * y + 1, by omega⟩ ⟨2 * z, by omega⟩)))
          (x (ix4 b c ⟨2 * y + 1, by omega⟩ ⟨2 * z + 1, by omega⟩)) := by
  have key : ∀ (i : (⟨4, ![1, 1, 2, 2]⟩ : Shape).Idx) (dy dz : Fin 2) (_ : i = ix4 (0 : Fin 1) (0 : Fin 1) dy dz) (v : EReal)
      {inst : Decidable (∀ a : Fin 4, (![0, 0, 0, 0] : Fin 4 → ℕ) a ≤ (ix4 b c y z (a.cast rfl)).val * (![1, 1, 2, 2] : Fin 4 → ℕ) a
            + (i a).val
          ∧ (ix4 b c y z (a.cast rfl)).val * (![1, 1, 2, 2] : Fin 4 → ℕ) a
            + (i a).val - (![0, 0, 0, 0] : Fin 4 → ℕ) a < S1024x32x28x28.size a)},
      (if hin : ∀ a : Fin 4, (![0, 0, 0, 0] : Fin 4 → ℕ) a ≤ (ix4 b c y z (a.cast rfl)).val * (![1, 1, 2, 2] : Fin 4 → ℕ) a
            + (i a).val
          ∧ (ix4 b c y z (a.cast rfl)).val * (![1, 1, 2, 2] : Fin 4 → ℕ) a
            + (i a).val - (![0, 0, 0, 0] : Fin 4 → ℕ) a < S1024x32x28x28.size a
        then x (fun a => ⟨_, (hin a).2⟩) else v)
      = x (ix4 b c ⟨2 * y + dy, by omega⟩ ⟨2 * z + dz, by omega⟩) := by
    intro i dy dz h v _
    subst h
    rw [dif_pos]
    · refine congrArg x ?_
      funext a
      refine Fin.ext ?_
      match a with
      | ⟨0, _⟩ =>
        exact (by omega : b.val * 1 + 0 - 0 = b.val)
      | ⟨1, _⟩ =>
        exact (by omega : c.val * 1 + 0 - 0 = c.val)
      | ⟨2, _⟩ =>
        exact (by omega : y.val * 2 + dy.val - 0 = 2 * y.val + dy.val)
      | ⟨3, _⟩ =>
        exact (by omega : z.val * 2 + dz.val - 0 = 2 * z.val + dz.val)
    · intro a
      match a with
      | ⟨0, _⟩ => exact ⟨Nat.zero_le _, (by omega : b.val * 1 + 0 - 0 < 1024)⟩
      | ⟨1, _⟩ => exact ⟨Nat.zero_le _, (by omega : c.val * 1 + 0 - 0 < 32)⟩
      | ⟨2, _⟩ => exact ⟨Nat.zero_le _, (by omega : y.val * 2 + dy.val - 0 < 28)⟩
      | ⟨3, _⟩ => exact ⟨Nat.zero_le _, (by omega : z.val * 2 + dz.val - 0 < 28)⟩
  have e0 : (⟨4, ![1, 1, 2, 2]⟩ : Shape).rowMajor.symm (0 : Fin 4) = ix4 (0 : Fin 1) (0 : Fin 1) (0 : Fin 2) (0 : Fin 2) := by decide
  have e1 : (⟨4, ![1, 1, 2, 2]⟩ : Shape).rowMajor.symm (1 : Fin 4) = ix4 (0 : Fin 1) (0 : Fin 1) (0 : Fin 2) (1 : Fin 2) := by decide
  have e2 : (⟨4, ![1, 1, 2, 2]⟩ : Shape).rowMajor.symm (2 : Fin 4) = ix4 (0 : Fin 1) (0 : Fin 1) (1 : Fin 2) (0 : Fin 2) := by decide
  have e3 : (⟨4, ![1, 1, 2, 2]⟩ : Shape).rowMajor.symm (3 : Fin 4) = ix4 (0 : Fin 1) (0 : Fin 1) (1 : Fin 2) (1 : Fin 2) := by decide
  exact congrArg₂ max (congrArg₂ max (congrArg₂ max (congrArg₂ max rfl (@key _ 0 0 e0 _ _)) (@key _ 0 1 e1 _ _))
    (@key _ 1 0 e2 _ _)) (@key _ 1 1 e3 _ _)

/-- Pooling 2: the largest of the four elements of a window, and of the initial value. -/
theorem pool2_apply (x : S1024x64x10x10.Idx → EReal) (init : S_.Idx → EReal) (hu : 0 < S_.numel)
    (b : Fin 1024) (c : Fin 64) (y z : Fin 5) :
    Host.reduceWindow (FloatOps.maximumf (F := Ideal) (φ := .f32)) ![1, 1, 2, 2] ![1, 1, 2, 2] ![0, 0, 0, 0] ![0, 0, 0, 0] x init
        reduceWindows_S1024x64x10x10_S1024x64x5x5_w1s1p0_0_w1s1p0_0_w2s2p0_0_w2s2p0_0 hu (ix4 b c y z)
      = max (max (max (max (init (Shape.Idx.first hu)) (x (ix4 b c ⟨2 * y, by omega⟩ ⟨2 * z, by omega⟩)))
          (x (ix4 b c ⟨2 * y, by omega⟩ ⟨2 * z + 1, by omega⟩)))
          (x (ix4 b c ⟨2 * y + 1, by omega⟩ ⟨2 * z, by omega⟩)))
          (x (ix4 b c ⟨2 * y + 1, by omega⟩ ⟨2 * z + 1, by omega⟩)) := by
  have key : ∀ (i : (⟨4, ![1, 1, 2, 2]⟩ : Shape).Idx) (dy dz : Fin 2) (_ : i = ix4 (0 : Fin 1) (0 : Fin 1) dy dz) (v : EReal)
      {inst : Decidable (∀ a : Fin 4, (![0, 0, 0, 0] : Fin 4 → ℕ) a ≤ (ix4 b c y z (a.cast rfl)).val * (![1, 1, 2, 2] : Fin 4 → ℕ) a
            + (i a).val
          ∧ (ix4 b c y z (a.cast rfl)).val * (![1, 1, 2, 2] : Fin 4 → ℕ) a
            + (i a).val - (![0, 0, 0, 0] : Fin 4 → ℕ) a < S1024x64x10x10.size a)},
      (if hin : ∀ a : Fin 4, (![0, 0, 0, 0] : Fin 4 → ℕ) a ≤ (ix4 b c y z (a.cast rfl)).val * (![1, 1, 2, 2] : Fin 4 → ℕ) a
            + (i a).val
          ∧ (ix4 b c y z (a.cast rfl)).val * (![1, 1, 2, 2] : Fin 4 → ℕ) a
            + (i a).val - (![0, 0, 0, 0] : Fin 4 → ℕ) a < S1024x64x10x10.size a
        then x (fun a => ⟨_, (hin a).2⟩) else v)
      = x (ix4 b c ⟨2 * y + dy, by omega⟩ ⟨2 * z + dz, by omega⟩) := by
    intro i dy dz h v _
    subst h
    rw [dif_pos]
    · refine congrArg x ?_
      funext a
      refine Fin.ext ?_
      match a with
      | ⟨0, _⟩ =>
        exact (by omega : b.val * 1 + 0 - 0 = b.val)
      | ⟨1, _⟩ =>
        exact (by omega : c.val * 1 + 0 - 0 = c.val)
      | ⟨2, _⟩ =>
        exact (by omega : y.val * 2 + dy.val - 0 = 2 * y.val + dy.val)
      | ⟨3, _⟩ =>
        exact (by omega : z.val * 2 + dz.val - 0 = 2 * z.val + dz.val)
    · intro a
      match a with
      | ⟨0, _⟩ => exact ⟨Nat.zero_le _, (by omega : b.val * 1 + 0 - 0 < 1024)⟩
      | ⟨1, _⟩ => exact ⟨Nat.zero_le _, (by omega : c.val * 1 + 0 - 0 < 64)⟩
      | ⟨2, _⟩ => exact ⟨Nat.zero_le _, (by omega : y.val * 2 + dy.val - 0 < 10)⟩
      | ⟨3, _⟩ => exact ⟨Nat.zero_le _, (by omega : z.val * 2 + dz.val - 0 < 10)⟩
  have e0 : (⟨4, ![1, 1, 2, 2]⟩ : Shape).rowMajor.symm (0 : Fin 4) = ix4 (0 : Fin 1) (0 : Fin 1) (0 : Fin 2) (0 : Fin 2) := by decide
  have e1 : (⟨4, ![1, 1, 2, 2]⟩ : Shape).rowMajor.symm (1 : Fin 4) = ix4 (0 : Fin 1) (0 : Fin 1) (0 : Fin 2) (1 : Fin 2) := by decide
  have e2 : (⟨4, ![1, 1, 2, 2]⟩ : Shape).rowMajor.symm (2 : Fin 4) = ix4 (0 : Fin 1) (0 : Fin 1) (1 : Fin 2) (0 : Fin 2) := by decide
  have e3 : (⟨4, ![1, 1, 2, 2]⟩ : Shape).rowMajor.symm (3 : Fin 4) = ix4 (0 : Fin 1) (0 : Fin 1) (1 : Fin 2) (1 : Fin 2) := by decide
  exact congrArg₂ max (congrArg₂ max (congrArg₂ max (congrArg₂ max rfl (@key _ 0 0 e0 _ _)) (@key _ 0 1 e1 _ _))
    (@key _ 1 0 e2 _ _)) (@key _ 1 1 e3 _ _)

end Cert.ReferenceIdeal.Ops

end
-- ==== Proof.RefLayers.lean ====
/- The reference's two convolution layers at an index. -/
module

public import proofs.«01_k».proof.Proof.RefOps
public import proofs.«01_k».proof.Proof.Spec
public import proofs.«01_k».proof.Proof.Consts
public import Idealize.ShloMosaic.Lib.Pointwise

@[expose] public section

set_option maxRecDepth 16384

noncomputable section

open Idealize.ShloMosaic

namespace Cert.ReferenceIdeal.Stages

open Cert.ReferenceIdeal Cert.ReferenceIdeal.Gen Cert.ReferenceIdeal.Ops Cert.Net

/-- The windows of the first convolution, their places in `p`. -/
def wins1 (x : FVec Ideal S1024x3x32x32 .f32) (p : IVec S28x5x1 32) : FVec Ideal S1024x3x28x5x28x5 .f32 :=
  Host.gather gather_S1024x3x28x5x32_S28x5x1_S1024x3x28x5x28x5_0123_4_n_n_4_2_102432851 (Host.gather gather_S1024x3x32x32_S28x5x1_S1024x3x28x5x32_014_2_n_n_2_2_10243132 x p) p

/-- The sums of the first convolution. -/
def sums1 (x : FVec Ideal S1024x3x32x32 .f32) (w : FVec Ideal S32x3x5x5 .f32) (p : IVec S28x5x1 32) : FVec Ideal S32x1024x28x28 .f32 :=
  Host.dotGeneral dot_S32x3x5x5_S1024x3x28x5x28x5_S32x1024x28x28_123_135_0_024_n_n none w (wins1 x p)

theorem sums1_at (x : FVec Ideal S1024x3x32x32 .f32) (w : FVec Ideal S32x3x5x5 .f32) (p : IVec S28x5x1 32)
    (hp : ∀ (y : Fin 28) (k : Fin 5), min (p (ix3 y k 0)).toInt.toNat 31 = y + k) (n : Fin 1024) (o : Fin 32) (y z : Fin 28) :
    sums1 x w p (ix4 o n y z) = conv 3 (rd4 x n) (rd4 w) o y z := by
  unfold sums1 wins1
  refine (dot1_apply w _ o n y z).trans ?_
  simp only [cols1_apply, rows1_apply, hp]
  refine Finset.sum_congr rfl fun c _ => Finset.sum_congr rfl fun k _ => Finset.sum_congr rfl fun l _ => ?_
  rw [rd4_ix w o c k l, rd4_ix x n c, mul_comm]

/-- The activations of the first convolution, from its sums. -/
def acts1 (d : FVec Ideal S32x1024x28x28 .f32) (b : FVec Ideal S32 .f32) : FVec Ideal S1024x32x28x28 .f32 :=
  maximumf (addf (transpose S1024x32x28x28 [1, 0, 2, 3] d transposes_S32x1024x28x28_S1024x32x28x28_1_0_2_3)
    (broadcastInDim S1024x32x28x28 ![0, 1, 2, 3] bcast_S1x32x1x1_S1024x32x28x28_0_1_2_3 (broadcastInDim S1x32x1x1 ![1] bcast_S32_S1x32x1x1_1 b)))
    (broadcastInDim S1024x32x28x28 ![] bcast_S_S1024x32x28x28 (constant S_ .f32 0x00000000#32))

theorem acts1_at (d : FVec Ideal S32x1024x28x28 .f32) (b : FVec Ideal S32 .f32) (n : Fin 1024) (o : Fin 32) (y z : Fin 28) :
    acts1 d b (ix4 n o y z) = max (d (ix4 o n y z) + rd1 b o) 0 := by
  pointwise [acts1]
  rw [rd1_ix b o]

/-- The pooled maps of the first layer. -/
def maps1 (a : FVec Ideal S1024x32x28x28 .f32) : FVec Ideal S1024x32x14x14 .f32 :=
  Host.reduceWindow FloatOps.maximumf ![1, 1, 2, 2] ![1, 1, 2, 2] ![0, 0, 0, 0] ![0, 0, 0, 0] a
    (broadcastInDim S_ ![] bcast_S_S_ (constant S_ .f32 0xFF800000#32)) reduceWindows_S1024x32x28x28_S1024x32x14x14_w1s1p0_0_w1s1p0_0_w2s2p0_0_w2s2p0_0 h_S_

theorem maps1_at (a : FVec Ideal S1024x32x28x28 .f32) (n : Fin 1024) (o : Fin 32) (y z : Fin 14) (f : ℕ → ℕ → EReal)
    (hf : ∀ y z : Fin 28, a (ix4 n o y z) = f y z) :
    maps1 a (ix4 n o y z) = max (max (max (f (2 * y) (2 * z)) (f (2 * y) (2 * z + 1))) (f (2 * y + 1) (2 * z))) (f (2 * y + 1) (2 * z + 1)) := by
  unfold maps1
  refine (pool1_apply a _ _ n o y z).trans ?_
  simp only [hf]
  pointwise
  rw [Consts.bot, max_eq_right bot_le]

/-- The first layer's output for the images `x`. -/
def layer1 (x : FVec Ideal S1024x3x32x32 .f32) (w : FVec Ideal S32x3x5x5 .f32) (b : FVec Ideal S32 .f32) (p : IVec S28x5x1 32) :
    FVec Ideal S1024x32x14x14 .f32 :=
  maps1 (acts1 (sums1 x w p) b)

theorem layer1_at (x : FVec Ideal S1024x3x32x32 .f32) (w : FVec Ideal S32x3x5x5 .f32) (b : FVec Ideal S32 .f32) (p : IVec S28x5x1 32)
    (hp : ∀ (y : Fin 28) (k : Fin 5), min (p (ix3 y k 0)).toInt.toNat 31 = y + k) (n : Fin 1024) (o : Fin 32) (y z : Fin 14) :
    layer1 x w b p (ix4 n o y z) = layer 3 (rd4 x n) (rd4 w) (rd1 b) o y z := by
  refine maps1_at _ n o y z (act 3 (rd4 x n) (rd4 w) (rd1 b) o) fun y z => ?_
  rw [acts1_at, sums1_at x w p hp]
  rfl

/-- The places of the first convolution's windows: a window's start plus the offset in it. -/
def place1 : IVec S28x5x1 32 :=
  let s := addi (broadcastInDim S28x5 ![0, 1] bcast_S28x1_S28x5_0_1 (broadcastInDim S28x1 ![0] bcast_S28_S28x1_0 (iotaInDim S28 32 0)))
    (broadcastInDim S28x5 ![0, 1] bcast_S1x5_S28x5_0_1 (broadcastInDim S1x5 ![1] bcast_S5_S1x5_1 (iotaInDim S5 32 0)))
  broadcastInDim S28x5x1 ![0, 1] bcast_S28x5_S28x5x1_0_1 (select (cmpi .slt s (broadcastInDim S28x5 ![] bcast_S_S28x5 (constantI S_ 32 0#32)))
    (addi s (broadcastInDim S28x5 ![] bcast_S_S28x5 (constantI S_ 32 32#32))) s)

theorem place1_at (y : Fin 28) (k : Fin 5) : min (place1 (ix3 y k 0)).toInt.toNat 31 = y + k := by
  pointwise [place1]
  revert y k
  decide +kernel

/-- The windows of the second convolution, their places in `p`. -/
def wins2 (x : FVec Ideal S1024x32x14x14 .f32) (p : IVec S10x5x1 32) : FVec Ideal S1024x32x10x5x10x5 .f32 :=
  Host.gather gather_S1024x32x10x5x14_S10x5x1_S1024x32x10x5x10x5_0123_4_n_n_4_2_1024321051 (Host.gather gather_S1024x32x14x14_S10x5x1_S1024x32x10x5x14_014_2_n_n_2_2_102432114 x p) p

/-- The sums of the second convolution. -/
def sums2 (x : FVec Ideal S1024x32x14x14 .f32) (w : FVec Ideal S64x32x5x5 .f32) (p : IVec S10x5x1 32) : FVec Ideal S64x1024x10x10 .f32 :=
  Host.dotGeneral dot_S64x32x5x5_S1024x32x10x5x10x5_S64x1024x10x10_123_135_0_024_n_n none w (wins2 x p)

theorem sums2_at (x : FVec Ideal S1024x32x14x14 .f32) (w : FVec Ideal S64x32x5x5 .f32) (p : IVec S10x5x1 32)
    (hp : ∀ (y : Fin 10) (k : Fin 5), min (p (ix3 y k 0)).toInt.toNat 13 = y + k) (n : Fin 1024) (o : Fin 64) (y z : Fin 10) :
    sums2 x w p (ix4 o n y z) = conv 32 (rd4 x n) (rd4 w) o y z := by
  unfold sums2 wins2
  refine (dot2_apply w _ o n y z).trans ?_
  simp only [cols2_apply, rows2_apply, hp]
  refine Finset.sum_congr rfl fun c _ => Finset.sum_congr rfl fun k _ => Finset.sum_congr rfl fun l _ => ?_
  rw [rd4_ix w o c k l, rd4_ix x n c, mul_comm]

/-- The activations of the second convolution, from its sums. -/
def acts2 (d : FVec Ideal S64x1024x10x10 .f32) (b : FVec Ideal S64 .f32) : FVec Ideal S1024x64x10x10 .f32 :=
  maximumf (addf (transpose S1024x64x10x10 [1, 0, 2, 3] d transposes_S64x1024x10x10_S1024x64x10x10_1_0_2_3)
    (broadcastInDim S1024x64x10x10 ![0, 1, 2, 3] bcast_S1x64x1x1_S1024x64x10x10_0_1_2_3 (broadcastInDim S1x64x1x1 ![1] bcast_S64_S1x64x1x1_1 b)))
    (broadcastInDim S1024x64x10x10 ![] bcast_S_S1024x64x10x10 (constant S_ .f32 0x00000000#32))

theorem acts2_at (d : FVec Ideal S64x1024x10x10 .f32) (b : FVec Ideal S64 .f32) (n : Fin 1024) (o : Fin 64) (y z : Fin 10) :
    acts2 d b (ix4 n o y z) = max (d (ix4 o n y z) + rd1 b o) 0 := by
  pointwise [acts2]
  rw [rd1_ix b o]

/-- The pooled maps of the second layer. -/
def maps2 (a : FVec Ideal S1024x64x10x10 .f32) : FVec Ideal S1024x64x5x5 .f32 :=
  Host.reduceWindow FloatOps.maximumf ![1, 1, 2, 2] ![1, 1, 2, 2] ![0, 0, 0, 0] ![0, 0, 0, 0] a
    (broadcastInDim S_ ![] bcast_S_S_ (constant S_ .f32 0xFF800000#32)) reduceWindows_S1024x64x10x10_S1024x64x5x5_w1s1p0_0_w1s1p0_0_w2s2p0_0_w2s2p0_0 h_S_

theorem maps2_at (a : FVec Ideal S1024x64x10x10 .f32) (n : Fin 1024) (o : Fin 64) (y z : Fin 5) (f : ℕ → ℕ → EReal)
    (hf : ∀ y z : Fin 10, a (ix4 n o y z) = f y z) :
    maps2 a (ix4 n o y z) = max (max (max (f (2 * y) (2 * z)) (f (2 * y) (2 * z + 1))) (f (2 * y + 1) (2 * z))) (f (2 * y + 1) (2 * z + 1)) := by
  unfold maps2
  refine (pool2_apply a _ _ n o y z).trans ?_
  simp only [hf]
  pointwise
  rw [Consts.bot, max_eq_right bot_le]

/-- The second layer's output for the images `x`. -/
def layer2 (x : FVec Ideal S1024x32x14x14 .f32) (w : FVec Ideal S64x32x5x5 .f32) (b : FVec Ideal S64 .f32) (p : IVec S10x5x1 32) :
    FVec Ideal S1024x64x5x5 .f32 :=
  maps2 (acts2 (sums2 x w p) b)

theorem layer2_at (x : FVec Ideal S1024x32x14x14 .f32) (w : FVec Ideal S64x32x5x5 .f32) (b : FVec Ideal S64 .f32) (p : IVec S10x5x1 32)
    (hp : ∀ (y : Fin 10) (k : Fin 5), min (p (ix3 y k 0)).toInt.toNat 13 = y + k) (n : Fin 1024) (o : Fin 64) (y z : Fin 5) :
    layer2 x w b p (ix4 n o y z) = layer 32 (rd4 x n) (rd4 w) (rd1 b) o y z := by
  refine maps2_at _ n o y z (act 32 (rd4 x n) (rd4 w) (rd1 b) o) fun y z => ?_
  rw [acts2_at, sums2_at x w p hp]
  rfl

/-- The places of the second convolution's windows: a window's start plus the offset in it. -/
def place2 : IVec S10x5x1 32 :=
  let s := addi (broadcastInDim S10x5 ![0, 1] bcast_S10x1_S10x5_0_1 (broadcastInDim S10x1 ![0] bcast_S10_S10x1_0 (iotaInDim S10 32 0)))
    (broadcastInDim S10x5 ![0, 1] bcast_S1x5_S10x5_0_1 (broadcastInDim S1x5 ![1] bcast_S5_S1x5_1 (iotaInDim S5 32 0)))
  broadcastInDim S10x5x1 ![0, 1] bcast_S10x5_S10x5x1_0_1 (select (cmpi .slt s (broadcastInDim S10x5 ![] bcast_S_S10x5 (constantI S_ 32 0#32)))
    (addi s (broadcastInDim S10x5 ![] bcast_S_S10x5 (constantI S_ 32 14#32))) s)

theorem place2_at (y : Fin 10) (k : Fin 5) : min (place2 (ix3 y k 0)).toInt.toNat 13 = y + k := by
  pointwise [place2]
  revert y k
  decide +kernel

end Cert.ReferenceIdeal.Stages

end
-- ==== Proof.RefHead.lean ====
/- The reference's dense layer and density head at an index. -/
module

public import proofs.«01_k».proof.Proof.RefLayers

@[expose] public section

set_option maxRecDepth 16384

noncomputable section

open Idealize.ShloMosaic

namespace Cert.ReferenceIdeal.Stages

open Cert.ReferenceIdeal Cert.ReferenceIdeal.Gen Cert.ReferenceIdeal.Ops Cert.Net

/-- The embeddings from the second layer's maps. -/
def dense (h : FVec Ideal S1024x64x5x5 .f32) (w : FVec Ideal S512x1600 .f32) (b : FVec Ideal S512 .f32) : FVec Ideal S1024x512 .f32 :=
  maximumf (addf (Host.dotGeneral dot_S1024x1600_S1600x512_S1024x512_1_0_0_1_n_n none (shapeCast _ h shapeCasts_S1024x64x5x5_S1024x1600)
      (transpose S1600x512 [1, 0] w transposes_S512x1600_S1600x512_1_0))
    (broadcastInDim S1024x512 ![0, 1] bcast_S1x512_S1024x512_0_1 (broadcastInDim S1x512 ![1] bcast_S512_S1x512_1 b)))
    (broadcastInDim S1024x512 ![] bcast_S_S1024x512 (constant S_ .f32 0x00000000#32))

theorem dense_at (h : FVec Ideal S1024x64x5x5 .f32) (w : FVec Ideal S512x1600 .f32) (b : FVec Ideal S512 .f32) (n : Fin 1024)
    (f : ℕ → ℕ → ℕ → EReal) (hf : ∀ (o : Fin 64) (y z : Fin 5), h (ix4 n o y z) = f o y z) (j : Fin 512) :
    dense h w b (ix2 n j) = embed f (rd2 w) (rd1 b) j := by
  pointwise [dense]
  simp only [hf, rd2_ix w, rd1_ix b, embed]
  refine congrArg (fun v => max (v + _) 0) (Finset.sum_congr rfl fun i _ => ?_)
  rw [show (i : ℕ) / 5 % 5 = i % 25 / 5 by omega]

/-- The class scores. -/
def scores (e : FVec Ideal S1024x512 .f32) (a : FVec Ideal S100x512 .f32) (b : FVec Ideal S100 .f32) : FVec Ideal S1024x100 .f32 :=
  addf (Host.dotGeneral dot_S1024x512_S512x100_S1024x100_1_0_0_1_n_n none e (transpose S512x100 [1, 0] a transposes_S100x512_S512x100_1_0))
    (broadcastInDim S1024x100 ![0, 1] bcast_S1x100_S1024x100_0_1 (broadcastInDim S1x100 ![1] bcast_S100_S1x100_1 b))

theorem scores_at (e : FVec Ideal S1024x512 .f32) (a : FVec Ideal S100x512 .f32) (b : FVec Ideal S100 .f32) (n : Fin 1024)
    (f : ℕ → EReal) (hf : ∀ j : Fin 512, e (ix2 n j) = f j) (k : Fin 100) :
    scores e a b (ix2 n k) = score f (rd2 a) (rd1 b) k := by
  pointwise [scores]
  simp only [hf, rd2_ix a, rd1_ix b]
  rfl

/-- The differences of the embeddings from the class means. -/
def gaps (e : FVec Ideal S1024x512 .f32) (mu : FVec Ideal S100x512 .f32) : FVec Ideal S1024x100x512 .f32 :=
  subf (broadcastInDim S1024x100x512 ![0, 1, 2] bcast_S1024x1x512_S1024x100x512_0_1_2
      (broadcastInDim S1024x1x512 ![0, 2] bcast_S1024x512_S1024x1x512_0_2 e))
    (broadcastInDim S1024x100x512 ![0, 1, 2] bcast_S1x100x512_S1024x100x512_0_1_2
      (broadcastInDim S1x100x512 ![1, 2] bcast_S100x512_S1x100x512_1_2 mu))

/-- The log densities with the log frequencies. -/
def densities (e : FVec Ideal S1024x512 .f32) (mu lv : FVec Ideal S100x512 .f32) (lf : FVec Ideal S100 .f32) : FVec Ideal S1024x100 .f32 :=
  addf (mulf (broadcastInDim S1024x100 ![] bcast_S_S1024x100 (constant S_ .f32 0xBF000000#32))
    (addf (addf (Host.reduceAdd (mulf (mulf (gaps e mu) (gaps e mu)) (broadcastInDim S1024x100x512 ![0, 1, 2] bcast_S1x100x512_S1024x100x512_0_1_2
          (broadcastInDim S1x100x512 ![1, 2] bcast_S100x512_S1x100x512_1_2 (Host.exp (Host.negf lv)))))
        (constant S_ .f32 0x00000000#32) reducesTo_S1024x100x512_S1024x100_d2 h_S_)
      (broadcastInDim S1024x100 ![0, 1] bcast_S1x100_S1024x100_0_1 (broadcastInDim S1x100 ![1] bcast_S100_S1x100_1
        (Host.reduceAdd lv (constant S_ .f32 0x00000000#32) reducesTo_S100x512_S100_d1 h_S_))))
      (broadcastInDim S1024x100 ![] bcast_S_S1024x100 (id (mulf (constant S_ .f32 0x44000000#32) (Host.log (constant S_ .f32 0x40C90FDB#32)))))))
    (broadcastInDim S1024x100 ![0, 1] bcast_S1x100_S1024x100_0_1 (broadcastInDim S1x100 ![1] bcast_S100_S1x100_1 (Host.log lf)))

theorem densities_at (e : FVec Ideal S1024x512 .f32) (mu lv : FVec Ideal S100x512 .f32) (lf : FVec Ideal S100 .f32) (n : Fin 1024)
    (f : ℕ → EReal) (hf : ∀ j : Fin 512, e (ix2 n j) = f j) (k : Fin 100) :
    densities e mu lv lf (ix2 n k) = dens ((-(1 / 2) : ℝ) : EReal) ((512 * Real.log (13176795 / 2097152) : ℝ) : EReal) f (rd2 mu) (rd2 lv) (rd1 lf) k := by
  pointwise [densities, gaps]
  simp only [hf, rd2_ix mu, rd2_ix lv, rd1_ix lf, Consts.neg_half, dens, ← Consts.dims_log]
  rfl

/-- The scores' exponentials, each row's largest score taken off. -/
def powers (s : FVec Ideal S1024x100 .f32) : FVec Ideal S1024x100 .f32 :=
  Host.exp (subf s (broadcastInDim S1024x100 ![0, 1] bcast_S1024x1_S1024x100_0_1 (broadcastInDim S1024x1 ![0] bcast_S1024_S1024x1_0
    (maximumf (broadcastInDim S1024 ![] bcast_S_S1024 (constant S_ .f32 0xFF800000#32))
      (Host.reduce FloatOps.maximumf s (constant S_ .f32 0xFF800000#32) reducesTo_S1024x100_S1024_d1 h_S_)))))

theorem powers_at (s : FVec Ideal S1024x100 .f32) (n : Fin 1024) (f : ℕ → EReal) (hf : ∀ k : Fin 100, s (ix2 n k) = f k) (k : Fin 100) :
    powers s (ix2 n k) = Ideal.exp (f k - Finset.univ.sup fun k : Fin 100 => f k) := by
  pointwise [powers]
  simp only [hf, Consts.bot, Consts.fold_max, max_eq_right bot_le]

/-- The result from the densities and the scores' exponentials. -/
def result (d p : FVec Ideal S1024x100 .f32) : FVec Ideal S1024x100 .f32 :=
  addf (broadcastInDim S1024x100 ![] bcast_S_S1024x100 (constant S_ .f32 0x3F800000#32))
    (mulf (broadcastInDim S1024x100 ![0, 1] bcast_S1024x1_S1024x100_0_1 (broadcastInDim S1024x1 ![0] bcast_S1024_S1024x1_0
        (Host.exp (minimumf (broadcastInDim S1024 ![] bcast_S_S1024 (id (constant S_ .f32 0x41F00000#32)))
          (maximumf (broadcastInDim S1024 ![] bcast_S_S1024 (id (constant S_ .f32 0xC1F00000#32)))
            (Host.log (Host.reduceAdd (Host.exp d) (constant S_ .f32 0x00000000#32) reducesTo_S1024x100_S1024_d1 h_S_)))))))
      (Host.divf p (broadcastInDim S1024x100 ![0, 1] bcast_S1024x1_S1024x100_0_1 (broadcastInDim S1024x1 ![0] bcast_S1024_S1024x1_0
        (Host.reduceAdd p (constant S_ .f32 0x00000000#32) reducesTo_S1024x100_S1024_d1 h_S_)))))

theorem result_at (d s : FVec Ideal S1024x100 .f32) (n : Fin 1024) (f g : ℕ → EReal) (hf : ∀ k : Fin 100, d (ix2 n k) = f k)
    (hg : ∀ k : Fin 100, s (ix2 n k) = g k) (k : Fin 100) :
    result d (powers s) (ix2 n k)
      = 1 + evid (Ideal.ofBits .f32 0xC1F00000#32) (Ideal.ofBits .f32 0x41F00000#32) f * soft g k := by
  pointwise [result]
  simp only [powers_at s n g hg, hf]
  rfl

end Cert.ReferenceIdeal.Stages

end
-- ==== Proof.RefResult.lean ====
/- The reference's result: the network's at every image and class. -/
module

public import proofs.«01_k».proof.Proof.RefHead
public import proofs.«01_k».proof.Proof.Gen.ReferenceIdeal.Run

@[expose] public section

set_option maxRecDepth 16384

noncomputable section

open Idealize.ShloMosaic Idealize.ShloMosaic.TcCoe

namespace Cert.ReferenceIdeal.Stages

open Cert.ReferenceIdeal Cert.ReferenceIdeal.Gen Cert.Net

/-- The embeddings, from the images and the layers' weights. -/
def embedding (x : FVec Ideal S1024x3x32x32 .f32) (w1 : FVec Ideal S32x3x5x5 .f32) (b1 : FVec Ideal S32 .f32) (w2 : FVec Ideal S64x32x5x5 .f32)
    (b2 : FVec Ideal S64 .f32) (wf : FVec Ideal S512x1600 .f32) (bf : FVec Ideal S512 .f32) : FVec Ideal S1024x512 .f32 :=
  dense (layer2 (layer1 x w1 b1 place1) w2 b2 place2) wf bf

theorem embedding_at (x : FVec Ideal S1024x3x32x32 .f32) (w1 : FVec Ideal S32x3x5x5 .f32) (b1 : FVec Ideal S32 .f32)
    (w2 : FVec Ideal S64x32x5x5 .f32) (b2 : FVec Ideal S64 .f32) (wf : FVec Ideal S512x1600 .f32) (bf : FVec Ideal S512 .f32)
    (n : Fin 1024) (j : Fin 512) :
    embedding x w1 b1 w2 b2 wf bf (ix2 n j) = feat (rd4 x n) (rd4 w1) (rd1 b1) (rd4 w2) (rd1 b2) (rd2 wf) (rd1 bf) j := by
  refine dense_at _ wf bf n _ (fun o y z => ?_) j
  rw [layer2_at _ w2 b2 place2 place2_at]
  refine layer_congr (fun c hc y hy x' hx => ?_) y.2 z.2
  exact (rd4_ix (layer1 x w1 b1 place1) n ⟨c, hc⟩ ⟨y, hy⟩ ⟨x', hx⟩).symm.trans
    (layer1_at x w1 b1 place1 place1_at n ⟨c, hc⟩ ⟨y, hy⟩ ⟨x', hx⟩)

/-- The result array of the reference, by its stages. -/
def final (x : FVec Ideal S1024x3x32x32 .f32) (w1 : FVec Ideal S32x3x5x5 .f32) (b1 : FVec Ideal S32 .f32) (w2 : FVec Ideal S64x32x5x5 .f32)
    (b2 : FVec Ideal S64 .f32) (wf : FVec Ideal S512x1600 .f32) (bf : FVec Ideal S512 .f32) (a : FVec Ideal S100x512 .f32)
    (ab : FVec Ideal S100 .f32) (mu lv : FVec Ideal S100x512 .f32) (lf : FVec Ideal S100 .f32) : FVec Ideal S1024x100 .f32 :=
  result (densities (embedding x w1 b1 w2 b2 wf bf) mu lv lf) (powers (scores (embedding x w1 b1 w2 b2 wf bf) a ab))

theorem final_at (x : FVec Ideal S1024x3x32x32 .f32) (w1 : FVec Ideal S32x3x5x5 .f32) (b1 : FVec Ideal S32 .f32)
    (w2 : FVec Ideal S64x32x5x5 .f32) (b2 : FVec Ideal S64 .f32) (wf : FVec Ideal S512x1600 .f32) (bf : FVec Ideal S512 .f32)
    (a : FVec Ideal S100x512 .f32) (ab : FVec Ideal S100 .f32) (mu lv : FVec Ideal S100x512 .f32) (lf : FVec Ideal S100 .f32)
    (n : Fin 1024) (k : Fin 100) :
    final x w1 b1 w2 b2 wf bf a ab mu lv lf (ix2 n k)
      = net (rd4 x) (rd4 w1) (rd1 b1) (rd4 w2) (rd1 b2) (rd2 wf) (rd1 bf) (rd2 a) (rd1 ab) (rd2 mu) (rd2 lv) (rd1 lf) n k :=
  result_at _ _ n _ _ (densities_at _ mu lv lf n _ (embedding_at x w1 b1 w2 b2 wf bf n))
    (scores_at _ a ab n _ (embedding_at x w1 b1 w2 b2 wf bf n)) k

variable (m : (ℓ : Loc nD τ sig) → Buf (Elt Ideal) ℓ) (c : Dev nD)

/-- The reference's run leaves these stages' array. -/
theorem run_result : Value.res_main_v117 m c
    = final (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11)) := rfl

end Cert.ReferenceIdeal.Stages

end
-- ==== Proof.Algebraic.lean ====
/- The kernel's result array and the reference's are the same. -/
module

public import proofs.«01_k».proof.Proof.Finite
public import proofs.«01_k».proof.Proof.RefResult
public import proofs.«01_k».proof.Proof.Gen.KernelIdeal.Frame

@[expose] public section

set_option maxRecDepth 16384

noncomputable section

open Idealize.ShloMosaic Idealize.ShloMosaic.TcCoe Idealize.SL.Sem

namespace Cert.Proof.Algebraic

open Cert.Net Cert.KernelIdeal.Host Cert.KernelIdeal.Result

/-- The kernel's array is the reference's stages applied to the kernel's arguments. -/
theorem array_final (m : (ℓ : Loc KernelIdeal.nD KernelIdeal.τ KernelIdeal.sig) → Buf (Elt Ideal) ℓ) (c : Dev KernelIdeal.nD) :
    G m c = ReferenceIdeal.Stages.final (arg0 m c) (arg1 m c) (arg2 m c) (arg3 m c) (arg4 m c) (arg5 m c) (arg6 m c) (arg7 m c) (arg8 m c)
      (arg9 m c) (arg10 m c) (arg11 m c) := by
  funext (i : KernelIdeal.S1024x100.Idx)
  have hi : i = ix2 (i 0 : Fin 1024) (i 1 : Fin 100) := by
    funext a
    fin_cases a <;> rfl
  exact (ReferenceIdeal.Stages.final_at _ _ _ _ _ _ _ _ _ _ _ _ (i 0) (i 1)).symm.trans (congrArg _ hi.symm)

/-- The kernel's run leaves the network's results, its arguments unchanged. -/
theorem kernel_run (m : (ℓ : Loc KernelIdeal.nD KernelIdeal.τ KernelIdeal.sig) → Buf (Elt Ideal) ℓ) (g : Dev KernelIdeal.nD → PrngReg)
    (hr : ∀ c, RealArgs m c) :
    θ_run (KernelIdeal.defs (F := Ideal)) (onTc (τ := KernelIdeal.τ) (KernelIdeal.main (F := Ideal))) ⟨m, fun _ => 0, g⟩
      (fun r => ∀ c : Dev KernelIdeal.nD, r.2.mem ((c.tc : Thread KernelIdeal.nD KernelIdeal.τ).loc KernelIdeal.main_v101) = G m c) :=
  (θ_run KernelIdeal.defs _ _).mono (fun _ h c => ((h c).1 12).trans (array m c (hr c))) (KernelIdeal.Gen.run_main m g)

/-- The kernel's run and the reference's, from equal arguments, leave the same array. -/
theorem algebraic : Cert.algebraic_KernelIdeal_ReferenceIdeal_pre_finite := by
  intro m g m' g' hpre hagree
  refine ⟨fun c => G m c, ?_, ?_⟩
  · refine (θ_run KernelIdeal.defs _ _).mono (fun r h c => ⟨h.1 c, h.2 c⟩)
      (θ_run_and (kernel_run m g (Finite.real_args m hpre)) (KernelIdeal.Gen.unchanged m g))
  · refine (θ_run Cert.ReferenceIdeal.defs _ _).mono (fun r h c => ⟨(h c).1.trans ?_, (h c).2⟩) (Cert.ReferenceIdeal.Value.run (F := Ideal) m' g')
    obtain ⟨e0, e1, e2, e3, e4, e5, e6, e7, e8, e9, e10, e11⟩ := hagree c
    rw [ReferenceIdeal.Stages.run_result, e0, e1, e2, e3, e4, e5, e6, e7, e8, e9, e10, e11]
    exact (array_final m c).symm

end Cert.Proof.Algebraic

end
-- ==== Proof.lean ====
module

public import proofs.«01_k».proof.Defs
public import proofs.«01_k».proof.Proof.Claims
public import proofs.«01_k».proof.Proof.Algebraic
public import proofs.«01_k».proof.Proof.Gen.Pre_finite

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite.Gen.facts,
    Running.frame_p, Running.frame_pi, Running.frame_pi_finite, Running.frame_ri, Running.frame_ri_finite, Running.preserves,
    Algebraic.algebraic⟩

end Cert.Proof

end
